-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scales [hPre_scales : Cert.Pre_scales.Facts] (m : (ℓ : Loc Cert.KernelIdeal.nD Cert.KernelIdeal.τ Cert.KernelIdeal.sig) → Buf (Elt Ideal) ℓ) : Prop :=
  ∀ c : Dev Cert.KernelIdeal.nD,
    (Cert.Pre_scales.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 = (fun _ => 1#1)
    ∧ (Cert.Pre_scales.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scales [hPre_scales : Cert.Pre_scales.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scales.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).1 = (fun _ => 1#1)
    ∧ (Cert.Pre_scales.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_scales [hKernelIdeal : Cert.KernelIdeal.Facts] [hPre_scales : Cert.Pre_scales.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scales m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_scales [hReferenceIdeal : Cert.ReferenceIdeal.Facts] [hPre_scales : Cert.Pre_scales.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scales m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  IdealRules.named_const.Statement Cert.KernelIdeal.κ "scale" .f32 0x3D93CD3A#32 (((Real.sqrt 192)⁻¹ : ℝ) : EReal)
  ∧ IdealRules.named_const.Statement Cert.KernelIdeal.κ "scale_log2e" .f32 0x3DD53B95#32 (((Real.sqrt 192)⁻¹ * (Real.log 2)⁻¹ : ℝ) : EReal)
  ∧ IdealRules.named_const.Statement Cert.KernelIdeal.κ "log2e" .f32 0x3FB8AA3B#32 (((Real.log 2)⁻¹ : ℝ) : EReal)

def algebraic_KernelIdeal_ReferenceIdeal_pre_scales [hKernelIdeal : Cert.KernelIdeal.Facts] [hReferenceIdeal : Cert.ReferenceIdeal.Facts] [hPre_scales : Cert.Pre_scales.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scales m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_v6) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_v72) = v1 c
          ∧ r.2.mem ((c.tc : Thread Cert.ReferenceIdeal.nD Cert.ReferenceIdeal.τ).loc Cert.ReferenceIdeal.main_v73) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_scales : Cert.Pre_scales.Facts),
    quiescent_Kernel (hKernel := hKernel)
    ∧ quiescent_KernelIdeal (hKernelIdeal := hKernelIdeal)
    ∧ quiescent_KernelIdeal_pre_scales (hKernelIdeal := hKernelIdeal) (hPre_scales := hPre_scales)
    ∧ quiescent_ReferenceIdeal (hReferenceIdeal := hReferenceIdeal)
    ∧ quiescent_ReferenceIdeal_pre_scales (hReferenceIdeal := hReferenceIdeal) (hPre_scales := hPre_scales)
    ∧ preserves_Kernel_KernelIdeal
    ∧ algebraic_KernelIdeal_ReferenceIdeal_pre_scales (hKernelIdeal := hKernelIdeal) (hReferenceIdeal := hReferenceIdeal) (hPre_scales := hPre_scales)
-- ==== Pre_scales.lean ====
abbrev S12x128x40x576 : Shape := ⟨4, ![12, 128, 40, 576]⟩
abbrev S12x128x40 : Shape := ⟨3, ![12, 128, 40]⟩
abbrev S12x128x512 : Shape := ⟨3, ![12, 128, 512]⟩
abbrev S12x128 : Shape := ⟨2, ![12, 128]⟩
abbrev S12x128x64 : Shape := ⟨3, ![12, 128, 64]⟩
abbrev S12x128x40x512 : Shape := ⟨4, ![12, 128, 40, 512]⟩
abbrev S_ : Shape := ⟨0, ![]⟩

class Facts : Prop where
  bcast_S_S12x128x40 : S_.BroadcastsInDim S12x128x40 (![] : Fin 0 → Fin S12x128x40.rank)
  bcast_S_S12x128 : S_.BroadcastsInDim S12x128 (![] : Fin 0 → Fin S12x128.rank)

variable [Facts]

def fn {F : FTy → Type} [FloatOps F] (main_arg0 : FVec F S12x128x40x576 .fp8e4m3) (main_arg1 : FVec F S12x128x40 .f32) (main_arg2 : FVec F S12x128x512 .fp8e4m3) (main_arg3 : FVec F S12x128 .f32) (main_arg4 : FVec F S12x128x64 .bf16) (main_arg5 : FVec F S12x128x40x512 .bf16) (main_arg6 : FVec F S12x128x40 .f32) (main_arg7 : FVec F S12x128x40x512 .fp8e5m2) (main_arg8 : FVec F S12x128 .f32) : IVec S12x128x40 1 × IVec S12x128 1 :=
  let main_cst : FVec F S_ .f32 := constant S_ .f32 0x00000000#32
  let main_v0 : FVec F S12x128x40 .f32 := broadcastInDim S12x128x40 ![] bcast_S_S12x128x40 main_cst
  let main_v1 : IVec S12x128x40 1 := cmpf .oge main_arg1 main_v0
  let main_cst_0 : FVec F S_ .f32 := constant S_ .f32 0x7F800000#32
  let main_v2 : FVec F S12x128x40 .f32 := broadcastInDim S12x128x40 ![] bcast_S_S12x128x40 main_cst_0
  let main_v3 : IVec S12x128x40 1 := cmpf .olt main_arg1 main_v2
  let main_v4 : IVec S12x128x40 1 := andi main_v1 main_v3
  let main_cst_1 : FVec F S_ .f32 := constant S_ .f32 0x00000000#32
  let main_v5 : FVec F S12x128 .f32 := broadcastInDim S12x128 ![] bcast_S_S12x128 main_cst_1
  let main_v6 : IVec S12x128 1 := cmpf .oge main_arg8 main_v5
  let main_cst_2 : FVec F S_ .f32 := constant S_ .f32 0x7F800000#32
  let main_v7 : FVec F S12x128 .f32 := broadcastInDim S12x128 ![] bcast_S_S12x128 main_cst_2
  let main_v8 : IVec S12x128 1 := cmpf .olt main_arg8 main_v7
  let main_v9 : IVec S12x128 1 := andi main_v6 main_v8
  (main_v4, main_v9)
-- ==== Kernel.lean ====
abbrev S12x128x40x576 : Shape := ⟨4, ![12, 128, 40, 576]⟩
abbrev S12x128x40 : Shape := ⟨3, ![12, 128, 40]⟩
abbrev S12x128x512 : Shape := ⟨3, ![12, 128, 512]⟩
abbrev S12x128 : Shape := ⟨2, ![12, 128]⟩
abbrev S12x128x64 : Shape := ⟨3, ![12, 128, 64]⟩
abbrev S12x128x40x512 : Shape := ⟨4, ![12, 128, 40, 512]⟩
abbrev S12x40x576x128 : Shape := ⟨4, ![12, 40, 576, 128]⟩
abbrev S12x40x128 : Shape := ⟨3, ![12, 40, 128]⟩
abbrev S12x64x128 : Shape := ⟨3, ![12, 64, 128]⟩
abbrev S1x8x576x128 : Shape := ⟨4, ![1, 8, 576, 128]⟩
abbrev S1x8x128 : Shape := ⟨3, ![1, 8, 128]⟩
abbrev S1x128x512 : Shape := ⟨3, ![1, 128, 512]⟩
abbrev S1x64x128 : Shape := ⟨3, ![1, 64, 128]⟩
abbrev S1x128x8x512 : Shape := ⟨4, ![1, 128, 8, 512]⟩
abbrev S1x128x8x128 : Shape := ⟨4, ![1, 128, 8, 128]⟩
abbrev S576x128 : Shape := ⟨2, ![576, 128]⟩
abbrev S128x64 : Shape := ⟨2, ![128, 64]⟩
abbrev S128x128 : Shape := ⟨2, ![128, 128]⟩
abbrev S1024x512 : Shape := ⟨2, ![1024, 512]⟩
abbrev S1x128 : Shape := ⟨2, ![1, 128]⟩
abbrev S1x128x128 : Shape := ⟨3, ![1, 128, 128]⟩
abbrev S64x128 : Shape := ⟨2, ![64, 128]⟩
abbrev S1x128x1x128 : Shape := ⟨4, ![1, 128, 1, 128]⟩
abbrev S8x128 : Shape := ⟨2, ![8, 128]⟩
abbrev S1x4x8x128 : Shape := ⟨4, ![1, 4, 8, 128]⟩
abbrev S4x8x128 : Shape := ⟨3, ![4, 8, 128]⟩
abbrev S32x128 : Shape := ⟨2, ![32, 128]⟩
abbrev S8 : Shape := ⟨1, ![8]⟩
abbrev S8x1 : Shape := ⟨2, ![8, 1]⟩
abbrev S128x256 : Shape := ⟨2, ![128, 256]⟩
abbrev S1x256 : Shape := ⟨2, ![1, 256]⟩
abbrev S1x1x512x128 : Shape := ⟨4, ![1, 1, 512, 128]⟩
abbrev S512x128 : Shape := ⟨2, ![512, 128]⟩
abbrev S512x256 : Shape := ⟨2, ![512, 256]⟩
abbrev S1x1x64x128 : Shape := ⟨4, ![1, 1, 64, 128]⟩
abbrev S64x256 : Shape := ⟨2, ![64, 256]⟩
abbrev S256x512 : Shape := ⟨2, ![256, 512]⟩
abbrev S128x512 : Shape := ⟨2, ![128, 512]⟩
abbrev S576x256 : Shape := ⟨2, ![576, 256]⟩
abbrev S1x1x576x128 : Shape := ⟨4, ![1, 1, 576, 128]⟩

abbrev nBuf : Space → Nat
  | .hbm => 18
  | .vmem => 33
  | .smem => 0
  | _ => 0

abbrev bufTy : (tb : Table) → Fin (tcTables nBuf tb) → BufTy
  | .hbm, ⟨0, _⟩ => ⟨S12x128x40x576, .fp8e4m3⟩
  | .hbm, ⟨1, _⟩ => ⟨S12x128x40, .f32⟩
  | .hbm, ⟨2, _⟩ => ⟨S12x128x512, .fp8e4m3⟩
  | .hbm, ⟨3, _⟩ => ⟨S12x128, .f32⟩
  | .hbm, ⟨4, _⟩ => ⟨S12x128x64, .bf16⟩
  | .hbm, ⟨5, _⟩ => ⟨S12x128x40x512, .bf16⟩
  | .hbm, ⟨6, _⟩ => ⟨S12x128x40, .f32⟩
  | .hbm, ⟨7, _⟩ => ⟨S12x128x40x512, .fp8e5m2⟩
  | .hbm, ⟨8, _⟩ => ⟨S12x128, .f32⟩
  | .hbm, ⟨9, _⟩ => ⟨S12x40x576x128, .fp8e4m3⟩
  | .hbm, ⟨10, _⟩ => ⟨S12x40x128, .f32⟩
  | .hbm, ⟨11, _⟩ => ⟨S12x40x128, .f32⟩
  | .hbm, ⟨12, _⟩ => ⟨S12x64x128, .bf16⟩
  | .hbm, ⟨13, _⟩ => ⟨S12x40x576x128, .bf16⟩
  | .hbm, ⟨14, _⟩ => ⟨S12x128x512, .f32⟩
  | .hbm, ⟨15, _⟩ => ⟨S12x64x128, .f32⟩
  | .hbm, ⟨16, _⟩ => ⟨S12x128x40x576, .bf16⟩
  | .hbm, ⟨17, _⟩ => ⟨S12x128x64, .f32⟩
  | .local _ .vmem, ⟨0, _⟩ => ⟨S1x8x576x128, .fp8e4m3⟩
  | .local _ .vmem, ⟨1, _⟩ => ⟨S1x8x576x128, .fp8e4m3⟩
  | .local _ .vmem, ⟨2, _⟩ => ⟨S1x8x128, .f32⟩
  | .local _ .vmem, ⟨3, _⟩ => ⟨S1x8x128, .f32⟩
  | .local _ .vmem, ⟨4, _⟩ => ⟨S1x128x512, .fp8e4m3⟩
  | .local _ .vmem, ⟨5, _⟩ => ⟨S1x128x512, .fp8e4m3⟩
  | .local _ .vmem, ⟨6, _⟩ => ⟨S12x128, .f32⟩
  | .local _ .vmem, ⟨7, _⟩ => ⟨S1x64x128, .bf16⟩
  | .local _ .vmem, ⟨8, _⟩ => ⟨S1x64x128, .bf16⟩
  | .local _ .vmem, ⟨9, _⟩ => ⟨S1x128x8x512, .bf16⟩
  | .local _ .vmem, ⟨10, _⟩ => ⟨S1x128x8x512, .bf16⟩
  | .local _ .vmem, ⟨11, _⟩ => ⟨S1x8x128, .f32⟩
  | .local _ .vmem, ⟨12, _⟩ => ⟨S1x8x128, .f32⟩
  | .local _ .vmem, ⟨13, _⟩ => ⟨S1x128x8x128, .fp8e5m2⟩
  | .local _ .vmem, ⟨14, _⟩ => ⟨S1x128x8x128, .fp8e5m2⟩
  | .local _ .vmem, ⟨15, _⟩ => ⟨S1x128x8x128, .fp8e5m2⟩
  | .local _ .vmem, ⟨16, _⟩ => ⟨S1x128x8x128, .fp8e5m2⟩
  | .local _ .vmem, ⟨17, _⟩ => ⟨S1x128x8x128, .fp8e5m2⟩
  | .local _ .vmem, ⟨18, _⟩ => ⟨S1x128x8x128, .fp8e5m2⟩
  | .local _ .vmem, ⟨19, _⟩ => ⟨S1x128x8x128, .fp8e5m2⟩
  | .local _ .vmem, ⟨20, _⟩ => ⟨S1x128x8x128, .fp8e5m2⟩
  | .local _ .vmem, ⟨21, _⟩ => ⟨S12x128, .f32⟩
  | .local _ .vmem, ⟨22, _⟩ => ⟨S1x8x576x128, .bf16⟩
  | .local _ .vmem, ⟨23, _⟩ => ⟨S1x8x576x128, .bf16⟩
  | .local _ .vmem, ⟨24, _⟩ => ⟨S1x128x512, .f32⟩
  | .local _ .vmem, ⟨25, _⟩ => ⟨S1x128x512, .f32⟩
  | .local _ .vmem, ⟨26, _⟩ => ⟨S1x64x128, .f32⟩
  | .local _ .vmem, ⟨27, _⟩ => ⟨S1x64x128, .f32⟩
  | .local _ .vmem, ⟨28, _⟩ => ⟨S576x128, .bf16⟩
  | .local _ .vmem, ⟨29, _⟩ => ⟨S128x64, .bf16⟩
  | .local _ .vmem, ⟨30, _⟩ => ⟨S128x128, .f32⟩
  | .local _ .vmem, ⟨31, _⟩ => ⟨S128x64, .f32⟩
  | .local _ .vmem, ⟨32, _⟩ => ⟨S1024x512, .fp8e5m2⟩
  | _, _ => ⟨S12x128x40x576, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4_0 : Ref sig .tc := ⟨.hbm, 13, rfl⟩
abbrev main_v4_1 : Ref sig .tc := ⟨.hbm, 14, rfl⟩
abbrev main_v4_2 : Ref sig .tc := ⟨.hbm, 15, rfl⟩
abbrev main_v5 : Ref sig .tc := ⟨.hbm, 16, rfl⟩
abbrev main_v6 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_scratch0 : Ref sig .tc := ⟨.vmem, 28, rfl⟩
abbrev cc0_scratch1 : Ref sig .tc := ⟨.vmem, 29, rfl⟩
abbrev cc0_scratch2 : Ref sig .tc := ⟨.vmem, 30, rfl⟩
abbrev cc0_scratch3 : Ref sig .tc := ⟨.vmem, 31, rfl⟩
abbrev cc0_scratch4 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27

abbrev nD : Nat := 1
abbrev τ : Topo := Topo.v7x

variable {F : FTy → Type} [FloatOps F]

abbrev grid0 : Pipeline.Grid := ⟨2, ![12, 5], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_off1 (i : grid0.Coords) : Fin 2 → Nat :=
  let arg0 : BitVec 32 := BitVec.ofNat 32 (i 0).val
  let v2776 : Index := Scalar.indexCast arg0
  let c0_1531 : Index := 0#32
  ![v2776.toNat, 0]
def k0_off2 (i : grid0.Coords) : Fin 2 → Nat :=
  let arg0 : BitVec 32 := BitVec.ofNat 32 (i 0).val
  let v2437 : Index := Scalar.indexCast arg0
  let c0_1301 : Index := 0#32
  ![v2437.toNat, 0]
def k0_cond2 (i : grid0.Coords) : BitVec 1 :=
  let arg1 : BitVec 32 := BitVec.ofNat 32 (i 1).val
  let c4_i32_1529 : BitVec 32 := 4#32
  let v2773 : BitVec 1 := Scalar.cmpi .eq arg1 c4_i32_1529
  let v2774 : BitVec 32 := Scalar.extui v2773
  let c0_i32_1530 : BitVec 32 := 0#32
  let v2775 : BitVec 1 := Scalar.cmpi .ne v2774 c0_i32_1530
  v2775

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![arg0.toNat, c0_i32.toNat, arg1.toNat, c1_i32.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c2_i32 : BitVec 32 := 2#32
  let c0_i32_0 : BitVec 32 := 0#32
  ![arg0.toNat, c0_i32.toNat, arg1.toNat, c2_i32.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c3_i32 : BitVec 32 := 3#32
  let c0_i32_0 : BitVec 32 := 0#32
  ![arg0.toNat, c0_i32.toNat, arg1.toNat, c3_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x8x576x128 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x512 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S12x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x64x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x128x8x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x8x128 .fp8e5m2 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x8x128 .fp8e5m2 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x128x8x128 .fp8e5m2 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x128x8x128 .fp8e5m2 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 1 → Memref sig .tc .vmem S12x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x8x576x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x128x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S1x64x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]
-- ==== KernelIdeal.lean ====
variable {F : FTy → Type} [FloatOps F] [Named F]
def κ : String → Option EReal := fun
  | "log2e" => some (((Real.log 2)⁻¹ : ℝ) : EReal)
  | "scale" => some (((Real.sqrt 192)⁻¹ : ℝ) : EReal)
  | "scale_log2e" => some (((Real.sqrt 192)⁻¹ * (Real.log 2)⁻¹ : ℝ) : EReal)
  | _ => none
-- ==== ReferenceIdeal.lean ====
abbrev S12x128x40x576 : Shape := ⟨4, ![12, 128, 40, 576]⟩
abbrev S12x128x40 : Shape := ⟨3, ![12, 128, 40]⟩
abbrev S12x128x512 : Shape := ⟨3, ![12, 128, 512]⟩
abbrev S12x128 : Shape := ⟨2, ![12, 128]⟩
abbrev S12x128x64 : Shape := ⟨3, ![12, 128, 64]⟩
abbrev S12x128x40x512 : Shape := ⟨4, ![12, 128, 40, 512]⟩
abbrev S12x128x1 : Shape := ⟨3, ![12, 128, 1]⟩
abbrev S12x128x576 : Shape := ⟨3, ![12, 128, 576]⟩
abbrev S12x128x40x1 : Shape := ⟨4, ![12, 128, 40, 1]⟩
abbrev S12x128x1x1 : Shape := ⟨4, ![12, 128, 1, 1]⟩
abbrev S_ : Shape := ⟨0, ![]⟩
abbrev S12x128x40x128 : Shape := ⟨4, ![12, 128, 40, 128]⟩
abbrev S12x1x1x128 : Shape := ⟨4, ![12, 1, 1, 128]⟩
abbrev S12x128x40x64 : Shape := ⟨4, ![12, 128, 40, 64]⟩
abbrev S128 : Shape := ⟨1, ![128]⟩
abbrev S1x128 : Shape := ⟨2, ![1, 128]⟩
abbrev S128x1 : Shape := ⟨2, ![128, 1]⟩
abbrev S128x128 : Shape := ⟨2, ![128, 128]⟩
abbrev S1x128x1x128 : Shape := ⟨4, ![1, 128, 1, 128]⟩

abbrev nBuf : Space → Nat
  | .hbm => 92
  | .vmem => 6
  | .smem => 0
  | _ => 0

abbrev bufTy : (tb : Table) → Fin (tcTables nBuf tb) → BufTy
  | .hbm, ⟨0, _⟩ => ⟨S12x128x40x576, .fp8e4m3⟩
  | .hbm, ⟨1, _⟩ => ⟨S12x128x40, .f32⟩
  | .hbm, ⟨2, _⟩ => ⟨S12x128x512, .fp8e4m3⟩
  | .hbm, ⟨3, _⟩ => ⟨S12x128, .f32⟩
  | .hbm, ⟨4, _⟩ => ⟨S12x128x64, .bf16⟩
  | .hbm, ⟨5, _⟩ => ⟨S12x128x40x512, .bf16⟩
  | .hbm, ⟨6, _⟩ => ⟨S12x128x40, .f32⟩
  | .hbm, ⟨7, _⟩ => ⟨S12x128x40x512, .fp8e5m2⟩
  | .hbm, ⟨8, _⟩ => ⟨S12x128, .f32⟩
  | .hbm, ⟨9, _⟩ => ⟨S12x128x40x576, .bf16⟩
  | .hbm, ⟨10, _⟩ => ⟨S12x128x512, .bf16⟩
  | .hbm, ⟨11, _⟩ => ⟨S12x128x40x512, .bf16⟩
  | .hbm, ⟨12, _⟩ => ⟨S12x128, .bf16⟩
  | .hbm, ⟨13, _⟩ => ⟨S12x128x1, .bf16⟩
  | .hbm, ⟨14, _⟩ => ⟨S12x128x512, .bf16⟩
  | .hbm, ⟨15, _⟩ => ⟨S12x128x512, .bf16⟩
  | .hbm, ⟨16, _⟩ => ⟨S12x128x576, .bf16⟩
  | .hbm, ⟨17, _⟩ => ⟨S12x128x40, .bf16⟩
  | .hbm, ⟨18, _⟩ => ⟨S12x128x40x1, .bf16⟩
  | .hbm, ⟨19, _⟩ => ⟨S12x128x40x576, .bf16⟩
  | .hbm, ⟨20, _⟩ => ⟨S12x128x40x576, .bf16⟩
  | .hbm, ⟨21, _⟩ => ⟨S12x128, .bf16⟩
  | .hbm, ⟨22, _⟩ => ⟨S12x128x1x1, .bf16⟩
  | .hbm, ⟨23, _⟩ => ⟨S12x128x40x512, .bf16⟩
  | .hbm, ⟨24, _⟩ => ⟨S12x128x40x512, .bf16⟩
  | .hbm, ⟨25, _⟩ => ⟨S12x128x40x512, .f32⟩
  | .hbm, ⟨26, _⟩ => ⟨S12x128x1x1, .f32⟩
  | .hbm, ⟨27, _⟩ => ⟨S12x128x40x512, .f32⟩
  | .hbm, ⟨28, _⟩ => ⟨S12x128x40x512, .f32⟩
  | .hbm, ⟨29, _⟩ => ⟨S12x128x40x512, .f32⟩
  | .hbm, ⟨30, _⟩ => ⟨S12x128x40x512, .f32⟩
  | .hbm, ⟨31, _⟩ => ⟨S_, .f32⟩
  | .hbm, ⟨32, _⟩ => ⟨S12x128x40, .f32⟩
  | .hbm, ⟨33, _⟩ => ⟨S12x128x40x512, .bf16⟩
  | .hbm, ⟨34, _⟩ => ⟨S12x128x40x128, .f32⟩
  | .hbm, ⟨35, _⟩ => ⟨S12x128x40x1, .f32⟩
  | .hbm, ⟨36, _⟩ => ⟨S12x128x40x128, .f32⟩
  | .hbm, ⟨37, _⟩ => ⟨S12x128x40x128, .f32⟩
  | .hbm, ⟨38, _⟩ => ⟨S12x1x1x128, .f32⟩
  | .hbm, ⟨39, _⟩ => ⟨S12x128x40x128, .f32⟩
  | .hbm, ⟨40, _⟩ => ⟨S12x128x40x128, .f32⟩
  | .hbm, ⟨41, _⟩ => ⟨S12x128x40x64, .bf16⟩
  | .hbm, ⟨42, _⟩ => ⟨S12x128x40x128, .f32⟩
  | .hbm, ⟨43, _⟩ => ⟨S12x128x40x1, .f32⟩
  | .hbm, ⟨44, _⟩ => ⟨S12x128x40x128, .f32⟩
  | .hbm, ⟨45, _⟩ => ⟨S12x128x40x128, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S12x128x40x128, .f32⟩
  | .hbm, ⟨51, _⟩ => ⟨S12x128x40x128, .f32⟩
  | .hbm, ⟨52, _⟩ => ⟨S12x128x40x128, .f32⟩
  | .hbm, ⟨53, _⟩ => ⟨S128, .i32⟩
  | .hbm, ⟨54, _⟩ => ⟨S1x128, .i32⟩
  | .hbm, ⟨55, _⟩ => ⟨S128, .i32⟩
  | .hbm, ⟨56, _⟩ => ⟨S128x1, .i32⟩
  | .hbm, ⟨57, _⟩ => ⟨S128x128, .i32⟩
  | .hbm, ⟨58, _⟩ => ⟨S128x128, .i32⟩
  | .hbm, ⟨59, _⟩ => ⟨S128x128, .i1⟩
  | .hbm, ⟨60, _⟩ => ⟨S1x128x1x128, .i1⟩
  | .hbm, ⟨61, _⟩ => ⟨S12x128x40x1, .f32⟩
  | .hbm, ⟨62, _⟩ => ⟨S12x128x40x128, .f32⟩
  | .hbm, ⟨63, _⟩ => ⟨S12x128x40x128, .f32⟩
  | .hbm, ⟨64, _⟩ => ⟨S12x128x40x128, .f32⟩
  | .hbm, ⟨65, _⟩ => ⟨S_, .f32⟩
  | .hbm, ⟨66, _⟩ => ⟨S_, .f32⟩
  | .hbm, ⟨67, _⟩ => ⟨S12x128x40x128, .i1⟩
  | .hbm, ⟨68, _⟩ => ⟨S12x128x40x128, .f32⟩
  | .hbm, ⟨69, _⟩ => ⟨S12x128x40x128, .f32⟩
  | .hbm, ⟨70, _⟩ => ⟨S12x128x40x128, .f32⟩
  | .hbm, ⟨71, _⟩ => ⟨S12x128x1x1, .f32⟩
  | .hbm, ⟨72, _⟩ => ⟨S12x128x40x128, .f32⟩
  | .hbm, ⟨73, _⟩ => ⟨S12x128x40x128, .f32⟩
  | .hbm, ⟨74, _⟩ => ⟨S12x1x1x128, .f32⟩
  | .hbm, ⟨75, _⟩ => ⟨S12x128x40x128, .f32⟩
  | .hbm, ⟨76, _⟩ => ⟨S12x128x40x128, .f32⟩
  | .hbm, ⟨77, _⟩ => ⟨S12x128x40x1, .f32⟩
  | .hbm, ⟨78, _⟩ => ⟨S12x128x40x128, .f32⟩
  | .hbm, ⟨79, _⟩ => ⟨S12x128x40x128, .f32⟩
  | .hbm, ⟨80, _⟩ => ⟨S12x128x40x128, .f32⟩
  | .hbm, ⟨81, _⟩ => ⟨S12x128x40x128, .f32⟩
  | .hbm, ⟨82, _⟩ => ⟨S12x128x40x128, .f32⟩
  | .hbm, ⟨83, _⟩ => ⟨S12x128x40x128, .bf16⟩
  | .hbm, ⟨84, _⟩ => ⟨S12x128x40x576, .f32⟩
  | .hbm, ⟨85, _⟩ => ⟨S12x128x40x576, .bf16⟩
  | .hbm, ⟨86, _⟩ => ⟨S12x128x576, .f32⟩
  | .hbm, ⟨87, _⟩ => ⟨S12x128x40x128, .bf16⟩
  | .hbm, ⟨88, _⟩ => ⟨S12x128x512, .f32⟩
  | .hbm, ⟨89, _⟩ => ⟨S12x128x512, .f32⟩
  | .hbm, ⟨90, _⟩ => ⟨S12x128x512, .f32⟩
  | .hbm, ⟨91, _⟩ => ⟨S12x128x64, .f32⟩
  | .local _ .vmem, ⟨0, _⟩ => ⟨S12x128x40x576, .fp8e4m3⟩
  | .local _ .vmem, ⟨1, _⟩ => ⟨S12x128x512, .fp8e4m3⟩
  | .local _ .vmem, ⟨2, _⟩ => ⟨S12x128x40x512, .fp8e5m2⟩
  | .local _ .vmem, ⟨3, _⟩ => ⟨S12x128x40x576, .bf16⟩
  | .local _ .vmem, ⟨4, _⟩ => ⟨S12x128x512, .bf16⟩
  | .local _ .vmem, ⟨5, _⟩ => ⟨S12x128x40x512, .bf16⟩
  | _, _ => ⟨S12x128x40x576, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_0 : Ref sig .tc := ⟨.hbm, 46, rfl⟩
abbrev main_v34 : Ref sig .tc := ⟨.hbm, 47, rfl⟩
abbrev main_cst_1 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_cst_2 : Ref sig .tc := ⟨.hbm, 65, rfl⟩
abbrev main_call0_v0 : Ref sig .tc := ⟨.hbm, 66, rfl⟩
abbrev main_call0_v1 : Ref sig .tc := ⟨.hbm, 67, rfl⟩
abbrev main_call0_v2 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S12x128x40x576 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S12x128x512 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S12x128x40x512 .fp8e5m2 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S12x128x40x576 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S12x128x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S12x128x40x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Body.lean ====
/- What the kernel's body computes from the blocks of one grid point, written once for every pair of heads and every
   group of four queries: the vector operations of the body in a regular form. -/
module

public import proofs.«01_k».proof.Proof.Gen.KernelIdeal.Skeleton
public import Idealize.ShloMosaic.Lib.Pointwise
public import Idealize.ShloMosaic.Lib.Pipeline.FrameBody
public import Idealize.ShloMosaic.Lib.Pipeline.ValueKit

@[expose] public section

set_option maxRecDepth 16384

noncomputable section

open Idealize.ShloMosaic Idealize.ShloMosaic.TcCoe Idealize.SL.Sem

namespace Cert.KernelIdeal.Body

open Cert.KernelIdeal Cert.KernelIdeal.Gen

/-- What the loads of a block of shape `s` read, at every rectangle. -/
abbrev Rd (s : Shape) (_ : EltTy) : Type := (r : Rect s) → r.shape.Idx → EReal

/-- The loads of a whole block of the queries, of one lane tile of the gradients, and of the outputs. -/
abbrev rdq (v : Memref sig .tc .vmem S1x8x576x128 .fp8e4m3) (hv : v.IsWhole) (x : Vec Ideal S1x8x576x128 .fp8e4m3) :
    Rd S1x8x576x128 .fp8e4m3 := fun r => View.readAt (Elt Ideal) v.view r.toLoadRect (hv.unread x)

abbrev rdd (v : Memref sig .tc .vmem S1x128x8x128 .fp8e5m2) (hv : v.IsWhole) (x : Vec Ideal S1x128x8x128 .fp8e5m2) :
    Rd S1x128x8x128 .fp8e5m2 := fun r => View.readAt (Elt Ideal) v.view r.toLoadRect (hv.unread x)

abbrev rdo (v : Memref sig .tc .vmem S1x128x8x512 .bf16) (hv : v.IsWhole) (x : Vec Ideal S1x128x8x512 .bf16) :
    Rd S1x128x8x512 .bf16 := fun r => View.readAt (Elt Ideal) v.view r.toLoadRect (hv.unread x)

/-- What the heads' part of the body reads: the queries, their scales, the keys, the log-sum-exps, the gradients as the
    scratch array gives them, the row sums, the gradient's scales, and the key scratch arrays (`kt` the dequantized keys
    transposed, `kr` their position part, `cs` the key scales as a column). -/
structure Blk where
  x0 : Rd S1x8x576x128 .fp8e4m3
  x1 : FVec Ideal S1x8x128 .f32
  x2 : FVec Ideal S1x128x512 .fp8e4m3
  x6 : FVec Ideal S1x8x128 .f32
  d : Rd S1024x512 .fp8e5m2
  dl : FVec Ideal S8x128 .f32
  dos : FVec Ideal S1x128 .f32
  kt : FVec Ideal S576x128 .bf16
  kr : FVec Ideal S128x64 .bf16
  cs : FVec Ideal S128x128 .f32

/-! ## The bounds of the slices, for every head, pair and group -/

theorem inb_nope (h : ℕ) (hh : h + 1 ≤ 8) :
    ∀ a, (![0, h, 0, 0] : Fin 4 → ℕ) a + S1x1x512x128.size a ≤ S1x8x576x128.size a := by
  intro a; fin_cases a <;> simp <;> omega

theorem inb_rope (h : ℕ) (hh : h + 1 ≤ 8) :
    ∀ a, (![0, h, 512, 0] : Fin 4 → ℕ) a + S1x1x64x128.size a ≤ S1x8x576x128.size a := by
  intro a; fin_cases a <;> simp <;> omega

theorem inb_pair (h : ℕ) (hh : h + 2 ≤ 8) :
    ∀ a, (![128 * h, 0] : Fin 2 → ℕ) a + S256x512.size a ≤ S1024x512.size a := by
  intro a; fin_cases a <;> simp <;> omega

theorem inb_piece (h l : ℕ) (hh : h + 1 ≤ 8) (hl : l + 1 ≤ 4) :
    ∀ a, (![128 * h, 128 * l] : Fin 2 → ℕ) a + S128x128.size a ≤ S1024x512.size a := by
  intro a; fin_cases a <;> simp <;> omega

theorem inb_head (h : ℕ) (hh : h + 1 ≤ 8) :
    ∀ a, (![0, 0, h, 0] : Fin 4 → ℕ) a + S1x128x1x128.size a ≤ S1x128x8x128.size a := by
  intro a; fin_cases a <;> simp <;> omega

theorem inb_do (n : ℕ) (hn : n + 1 ≤ 32) :
    ∀ a, (![0, 4 * n, 0, 0] : Fin 4 → ℕ) a + S1x4x8x128.size a ≤ S1x128x8x128.size a := by
  intro a; fin_cases a <;> simp <;> omega

theorem inb_o (n l : ℕ) (hn : n + 1 ≤ 32) (hl : l + 1 ≤ 4) :
    ∀ a, (![0, 4 * n, 0, 128 * l] : Fin 4 → ℕ) a + S1x4x8x128.size a ≤ S1x128x8x512.size a := by
  intro a; fin_cases a <;> simp <;> omega

theorem slices_row (h : ℕ) (hh : h + 1 ≤ 8) : S8x128.Slices ![h, 0] S1x128 := by
  refine ⟨rfl, fun a => ?_⟩; fin_cases a <;> simp <;> omega

theorem slices_group (k : ℕ) (hk : k + 1 ≤ 4) : S32x128.Slices ![8 * k, 0] S8x128 := by
  refine ⟨rfl, fun a => ?_⟩; fin_cases a <;> simp <;> omega

/-! ## The gradient scratch array -/

/-- The piece of the gradient scratch array that head `h` and lane tile `l` fill. -/
def piece (x : Rd S1x128x8x128 .fp8e5m2) (h l : ℕ) (hh : h + 1 ≤ 8) (hl : l + 1 ≤ 4) :
    View.Piece (Elt Ideal) S1024x512 .fp8e5m2 :=
  ⟨Rect.unit (s := S1024x512) ![128 * h, 128 * l] S128x128.size (inb_piece h l hh hl),
    shapeCast S128x128 (shapeCast S128x128 (x (Rect.unit (s := S1x128x8x128) ![0, 0, h, 0] S1x128x1x128.size (inb_head h hh))) shapeCasts_S1x128x1x128_S128x128)
      shapeCasts_S128x128_S128x128⟩

/-- Every piece of the gradient scratch array, the last written first. -/
def pieces (x7 x8 x9 x10 : Rd S1x128x8x128 .fp8e5m2) : List (View.Piece (Elt Ideal) S1024x512 .fp8e5m2) :=
  [piece x10 7 3 (by omega) (by omega), piece x10 6 3 (by omega) (by omega),
   piece x10 5 3 (by omega) (by omega), piece x10 4 3 (by omega) (by omega),
   piece x10 3 3 (by omega) (by omega), piece x10 2 3 (by omega) (by omega),
   piece x10 1 3 (by omega) (by omega), piece x10 0 3 (by omega) (by omega),
   piece x9 7 2 (by omega) (by omega), piece x9 6 2 (by omega) (by omega),
   piece x9 5 2 (by omega) (by omega), piece x9 4 2 (by omega) (by omega),
   piece x9 3 2 (by omega) (by omega), piece x9 2 2 (by omega) (by omega),
   piece x9 1 2 (by omega) (by omega), piece x9 0 2 (by omega) (by omega),
   piece x8 7 1 (by omega) (by omega), piece x8 6 1 (by omega) (by omega),
   piece x8 5 1 (by omega) (by omega), piece x8 4 1 (by omega) (by omega),
   piece x8 3 1 (by omega) (by omega), piece x8 2 1 (by omega) (by omega),
   piece x8 1 1 (by omega) (by omega), piece x8 0 1 (by omega) (by omega),
   piece x7 7 0 (by omega) (by omega), piece x7 6 0 (by omega) (by omega),
   piece x7 5 0 (by omega) (by omega), piece x7 4 0 (by omega) (by omega),
   piece x7 3 0 (by omega) (by omega), piece x7 2 0 (by omega) (by omega),
   piece x7 1 0 (by omega) (by omega), piece x7 0 0 (by omega) (by omega)]

/-! ## One pair of heads -/

/-- Two rows of an eight-row vector side by side. -/
def rowPair {φ : FTy} (v : FVec Ideal S8x128 φ) (h : ℕ) (hh : h + 2 ≤ 8) : FVec Ideal S1x256 φ :=
  concatenate S1x256 1 [⟨S1x128, extractStridedSlice S1x128 ![h, 0] v (slices_row h (by omega))⟩,
    ⟨S1x128, extractStridedSlice S1x128 ![h + 1, 0] v (slices_row (h + 1) (by omega))⟩] concatenates_S1x128_S1x128_S1x256_d1

/-- The first 512 lanes of the queries of two heads, side by side. -/
def qNope (B : Blk) (h : ℕ) (hh : h + 2 ≤ 8) : FVec Ideal S512x256 .fp8e4m3 :=
  concatenate S512x256 1
    [⟨S512x128, shapeCast S512x128 (B.x0 (Rect.unit (s := S1x8x576x128) ![0, h, 0, 0] S1x1x512x128.size (inb_nope h (by omega)))) shapeCasts_S1x1x512x128_S512x128⟩,
     ⟨S512x128, shapeCast S512x128 (B.x0 (Rect.unit (s := S1x8x576x128) ![0, h + 1, 0, 0] S1x1x512x128.size (inb_nope (h + 1) (by omega)))) shapeCasts_S1x1x512x128_S512x128⟩]
    concatenates_S512x128_S512x128_S512x256_d1

/-- The last 64 lanes of the queries of two heads, side by side. -/
def qRope (B : Blk) (h : ℕ) (hh : h + 2 ≤ 8) : FVec Ideal S64x256 .fp8e4m3 :=
  concatenate S64x256 1
    [⟨S64x128, shapeCast S64x128 (B.x0 (Rect.unit (s := S1x8x576x128) ![0, h, 512, 0] S1x1x64x128.size (inb_rope h (by omega)))) shapeCasts_S1x1x64x128_S64x128⟩,
     ⟨S64x128, shapeCast S64x128 (B.x0 (Rect.unit (s := S1x8x576x128) ![0, h + 1, 512, 0] S1x1x64x128.size (inb_rope (h + 1) (by omega)))) shapeCasts_S1x1x64x128_S64x128⟩]
    concatenates_S64x128_S64x128_S64x256_d1

/-- The gradients of two heads, one above the other, as the scratch array gives them. -/
def doPair (B : Blk) (h : ℕ) (hh : h + 2 ≤ 8) : FVec Ideal S256x512 .fp8e5m2 :=
  B.d (Rect.unit (s := S1024x512) ![128 * h, 0] S256x512.size (inb_pair h hh))

/-! ## The row sums -/

/-- The products of four queries' gradients and outputs over one lane tile. -/
def prod (x : Rd S1x128x8x128 .fp8e5m2) (o : Rd S1x128x8x512 .bf16) (n l : ℕ) (hn : n + 1 ≤ 32) (hl : l + 1 ≤ 4) :
    FVec Ideal S32x128 .f32 :=
  mulf (shapeCast S32x128 (extf .f32 (shapeCast S4x8x128 (x (Rect.unit (s := S1x128x8x128) ![0, 4 * n, 0, 0] S1x4x8x128.size (inb_do n hn))) shapeCasts_S1x4x8x128_S4x8x128) bitsLt_fp8e5m2_f32)
        shapeCasts_S4x8x128_S32x128)
    (shapeCast S32x128 (extf .f32 (shapeCast S4x8x128 (o (Rect.unit (s := S1x128x8x512) ![0, 4 * n, 0, 128 * l] S1x4x8x128.size (inb_o n l hn hl))) shapeCasts_S1x4x8x128_S4x8x128) bitsLt_bf16_f32)
        shapeCasts_S4x8x128_S32x128)

/-- The four lane tiles' products added. -/
def part (o : Rd S1x128x8x512 .bf16) (x7 x8 x9 x10 : Rd S1x128x8x128 .fp8e5m2) (n : ℕ) (hn : n + 1 ≤ 32) :
    FVec Ideal S32x128 .f32 :=
  addf (addf (addf (prod x7 o n 0 hn (by omega)) (prod x8 o n 1 hn (by omega))) (prod x9 o n 2 hn (by omega)))
    (prod x10 o n 3 hn (by omega))

/-- One query's row sums put in the query's lane. -/
def lane (p : FVec Ideal S32x128 .f32) (prev : FVec Ideal S8x128 .f32) (n k : ℕ) (hk : k + 1 ≤ 4) : FVec Ideal S8x128 .f32 :=
  select (cmpi .eq (iota .tc S8x128 32 [1] iota_S8x128_d1_w32) (broadcast S8x128 (BitVec.ofNat 32 (4 * n + k))))
    (broadcastTo S8x128 (shapeCast S8x1 (shapeCast S8x1
      (multiReduction .add [1] S8 (extractStridedSlice S8x128 ![8 * k, 0] p (slices_group k hk)) 0x00000000#32 reduces_S8x128_S8 (.inl rfl) rfl)
      shapeCasts_S8_S8x1) shapeCasts_S8x1_S8x1) broadcasts_S8x1_S8x128) prev

/-- The row sums of the first `4 n` queries, the other lanes zero. -/
def rowSums (o : Rd S1x128x8x512 .bf16) (x7 x8 x9 x10 : Rd S1x128x8x128 .fp8e5m2) :
    (n : ℕ) → n ≤ 32 → FVec Ideal S8x128 .f32
  | 0, _ => broadcast S8x128 (Scalar.ofBits (F := Ideal) .f32 0x00000000#32)
  | n + 1, hn => lane (part o x7 x8 x9 x10 n hn) (lane (part o x7 x8 x9 x10 n hn) (lane (part o x7 x8 x9 x10 n hn)
      (lane (part o x7 x8 x9 x10 n hn) (rowSums o x7 x8 x9 x10 n (by omega)) n 0 (by omega)) n 1 (by omega)) n 2 (by omega))
      n 3 (by omega)

/-- Four more queries' row sums. -/
theorem rowSums_next {o : Rd S1x128x8x512 .bf16} {x7 x8 x9 x10 : Rd S1x128x8x128 .fp8e5m2} {n : ℕ} {hn : n + 1 ≤ 32}
    {p : FVec Ideal S32x128 .f32} {v w : FVec Ideal S8x128 .f32} (hv : v = rowSums o x7 x8 x9 x10 n (by omega))
    (hp : p = part o x7 x8 x9 x10 n hn)
    (hw : w = lane p (lane p (lane p (lane p v n 0 (by omega)) n 1 (by omega)) n 2 (by omega)) n 3 (by omega)) :
    w = rowSums o x7 x8 x9 x10 (n + 1) hn := by
  subst hv hp hw; rfl

/-- The gradient scales times the softmax scale. -/
def dosS (B : Blk) : FVec Ideal S1x128 .f32 := k0_pay202 B.dos

/-! ## Scores, gradients of scores, and what the pair adds to the results -/

/-- The query scales of the eight heads. -/
def qs (B : Blk) : FVec Ideal S8x128 .f32 := k0_pay204 B.x1

/-- The two heads' probabilities, keys by queries. -/
def P (B : Blk) (h : ℕ) (hh : h + 2 ≤ 8) : FVec Ideal S128x256 .f32 :=
  select k0_pay208
    (exp2 (subf
      (mulf
        (addf
          (mulf (matmul dot_S128x512_S512x256_S128x256_1_0_0_1_n_n none (shapeCast S128x512 B.x2 shapeCasts_S1x128x512_S128x512)
            (qNope B h hh) (constant S128x256 .f32 0x00000000#32)) (k0_pay209 B.cs))
          (matmul dot_S128x64_S64x256_S128x256_1_0_0_1_n_n none B.kr (qRope B h hh) (constant S128x256 .f32 0x00000000#32)))
        (broadcastTo S128x256 (rowPair (k0_pay205 (qs B)) h hh) broadcasts_S1x256_S128x256))
      (broadcastTo S128x256 (rowPair (k0_pay206 B.x6) h hh) broadcasts_S1x256_S128x256)))
    (broadcast S128x256 (Scalar.ofBits (F := Ideal) .f32 0x00000000#32))

/-- The gradients of the two heads' scores. -/
def Ds (B : Blk) (h : ℕ) (hh : h + 2 ≤ 8) : FVec Ideal S128x256 .bf16 :=
  truncf .bf16
    (mulf (P B h hh)
      (subf
        (mulf
          (mulf (matmul dot_S128x512_S256x512_S128x256_1_1_0_0_n_n none (shapeCast S128x512 B.x2 shapeCasts_S1x128x512_S128x512)
            (doPair B h hh) (constant S128x256 .f32 0x00000000#32)) (k0_pay209 B.cs))
          (broadcastTo S128x256 (k0_pay210 (dosS B)) broadcasts_S1x256_S128x256))
        (broadcastTo S128x256 (rowPair B.dl h hh) broadcasts_S1x256_S128x256))) bitsLt_bf16_f32

/-- The gradients of the two heads' queries. -/
def Dq (B : Blk) (h : ℕ) (hh : h + 2 ≤ 8) : FVec Ideal S576x256 .bf16 :=
  truncf .bf16 (matmul dot_S576x128_S128x256_S576x256_1_0_0_1_n_n none B.kt (Ds B h hh) (constant S576x256 .f32 0x00000000#32)) bitsLt_bf16_f32

/-- What is stored of the first head's. -/
def dqLo (B : Blk) (h : ℕ) (hh : h + 2 ≤ 8) : FVec Ideal S1x1x576x128 .bf16 :=
  shapeCast S1x1x576x128 (extractStridedSlice S576x128 ![0, 0] (Dq B h hh) slices_S576x256_o0_0_S576x128) shapeCasts_S576x128_S1x1x576x128

/-- What is stored of the second head's. -/
def dqHi (B : Blk) (h : ℕ) (hh : h + 2 ≤ 8) : FVec Ideal S1x1x576x128 .bf16 :=
  shapeCast S1x1x576x128 (extractStridedSlice S576x128 ![0, 128] (Dq B h hh) slices_S576x256_o0_128_S576x128) shapeCasts_S576x128_S1x1x576x128

/-- The gradients of the scores times the query scales. -/
def Dsq (B : Blk) (h : ℕ) (hh : h + 2 ≤ 8) : FVec Ideal S128x256 .bf16 :=
  mulf (Ds B h hh) (broadcastTo S128x256 (rowPair (k0_pay207 (qs B)) h hh) broadcasts_S1x256_S128x256)

/-- The probabilities times the gradient scales. -/
def Pdo (B : Blk) (h : ℕ) (hh : h + 2 ≤ 8) : FVec Ideal S128x256 .bf16 :=
  mulf (truncf .bf16 (P B h hh) bitsLt_bf16_f32) (broadcastTo S128x256 (k0_pay211 B.dos) broadcasts_S1x256_S128x256)

/-- One pair added to the gradient of the compressed keys. -/
def dcStep (B : Blk) (h : ℕ) (hh : h + 2 ≤ 8) (acc : FVec Ideal S1x128x512 .f32) : FVec Ideal S1x128x512 .f32 :=
  shapeCast S1x128x512 (addf (shapeCast S128x512 acc shapeCasts_S1x128x512_S128x512)
    (addf (matmul dot_S128x256_S512x256_S128x512_1_1_0_0_n_n none (Dsq B h hh) (qNope B h hh) (constant S128x512 .f32 0x00000000#32))
      (matmul dot_S128x256_S256x512_S128x512_1_0_0_1_n_n none (Pdo B h hh) (doPair B h hh) (constant S128x512 .f32 0x00000000#32))))
    shapeCasts_S128x512_S1x128x512

/-- One pair added to the gradient of the position keys. -/
def dkrStep (B : Blk) (h : ℕ) (hh : h + 2 ≤ 8) (acc : FVec Ideal S128x64 .f32) : FVec Ideal S128x64 .f32 :=
  shapeCast S128x64 (addf acc
    (matmul dot_S128x256_S64x256_S128x64_1_1_0_0_n_n none (Dsq B h hh) (qRope B h hh) (constant S128x64 .f32 0x00000000#32)))
    shapeCasts_S128x64_S128x64

theorem dcStep_of (B : Blk) (h : ℕ) (hh : h + 2 ≤ 8) {q d s p} (acc) (hq : q = qNope B h hh) (hd : d = doPair B h hh)
    (hs : s = Dsq B h hh) (hp : p = Pdo B h hh) : k0_pay1 q d s p acc = dcStep B h hh acc := by
  subst hq hd hs hp; rfl

theorem inb_dq (h : ℕ) (hh : h + 1 ≤ 8) :
    ∀ a, (![0, h, 0, 0] : Fin 4 → ℕ) a + S1x1x576x128.size a ≤ S1x8x576x128.size a := by
  intro a; fin_cases a <;> simp <;> omega

/-- The pieces the gradient of the queries is stored in, the last stored first. -/
def dqPieces (B : Blk) : List (View.Piece (Elt Ideal) S1x8x576x128 .bf16) :=
  [⟨Rect.unit (s := S1x8x576x128) ![0, 7, 0, 0] S1x1x576x128.size (inb_dq 7 (by omega)), dqHi B 6 (by omega)⟩,
   ⟨Rect.unit (s := S1x8x576x128) ![0, 6, 0, 0] S1x1x576x128.size (inb_dq 6 (by omega)), dqLo B 6 (by omega)⟩,
   ⟨Rect.unit (s := S1x8x576x128) ![0, 5, 0, 0] S1x1x576x128.size (inb_dq 5 (by omega)), dqHi B 4 (by omega)⟩,
   ⟨Rect.unit (s := S1x8x576x128) ![0, 4, 0, 0] S1x1x576x128.size (inb_dq 4 (by omega)), dqLo B 4 (by omega)⟩,
   ⟨Rect.unit (s := S1x8x576x128) ![0, 3, 0, 0] S1x1x576x128.size (inb_dq 3 (by omega)), dqHi B 2 (by omega)⟩,
   ⟨Rect.unit (s := S1x8x576x128) ![0, 2, 0, 0] S1x1x576x128.size (inb_dq 2 (by omega)), dqLo B 2 (by omega)⟩,
   ⟨Rect.unit (s := S1x8x576x128) ![0, 1, 0, 0] S1x1x576x128.size (inb_dq 1 (by omega)), dqHi B 0 (by omega)⟩,
   ⟨Rect.unit (s := S1x8x576x128) ![0, 0, 0, 0] S1x1x576x128.size (inb_dq 0 (by omega)), dqLo B 0 (by omega)⟩]

/-- All four pairs. -/
def dcAll (B : Blk) (acc : FVec Ideal S1x128x512 .f32) : FVec Ideal S1x128x512 .f32 :=
  dcStep B 6 (by omega) (dcStep B 4 (by omega) (dcStep B 2 (by omega) (dcStep B 0 (by omega) acc)))

/-- All four pairs. -/
def dkrAll (B : Blk) (acc : FVec Ideal S128x64 .f32) : FVec Ideal S128x64 .f32 :=
  dkrStep B 6 (by omega) (dkrStep B 4 (by omega) (dkrStep B 2 (by omega) (dkrStep B 0 (by omega) acc)))

/-! ## The key scratch arrays, filled at a batch's first point -/

theorem inb_keys (l : ℕ) (hl : l + 1 ≤ 4) : ∀ a, (![0, 0, 128 * l] : Fin 3 → ℕ) a + S1x128x128.size a ≤ S1x128x512.size a := by
  intro a; fin_cases a <;> simp <;> omega

theorem inb_kt (l : ℕ) (hl : l + 1 ≤ 4) : ∀ a, (![128 * l, 0] : Fin 2 → ℕ) a + S128x128.size a ≤ S576x128.size a := by
  intro a; fin_cases a <;> simp <;> omega

theorem inb_kt_last : ∀ a, (![512, 0] : Fin 2 → ℕ) a + S64x128.size a ≤ S576x128.size a := by
  intro a; fin_cases a <;> simp

/-- The key scales as a column, along every query. -/
def csCol (s : FVec Ideal S1x128 .f32) : FVec Ideal S128x128 .f32 :=
  transpose S128x128 [1, 0] (broadcastTo S128x128 (shapeCast S1x128 s shapeCasts_S1x128_S1x128) broadcasts_S1x128_S128x128)
    transposes_S128x128_p1_0_S128x128

/-- The position part of the keys. -/
def krT (x4 : FVec Ideal S1x64x128 .bf16) : FVec Ideal S128x64 .bf16 :=
  shapeCast S128x64 (truncf .bf16 (transpose S128x64 [1, 0] (extf .f32 (shapeCast S64x128 x4 shapeCasts_S1x64x128_S64x128) bitsLt_bf16_f32)
    transposes_S64x128_p1_0_S128x64) bitsLt_bf16_f32) shapeCasts_S128x64_S128x64

/-- One lane tile of the dequantized keys, transposed. -/
def ktPiece (x2 : Rd S1x128x512 .fp8e4m3) (s : FVec Ideal S1x128 .f32) (l : ℕ) (hl : l + 1 ≤ 4) : View.Piece (Elt Ideal) S576x128 .bf16 :=
  ⟨Rect.unit (s := S576x128) ![128 * l, 0] S128x128.size (inb_kt l hl),
    shapeCast S128x128 (truncf .bf16 (transpose S128x128 [1, 0] (mulf (extf .f32
      (shapeCast S128x128 (x2 (Rect.unit (s := S1x128x512) ![0, 0, 128 * l] S1x128x128.size (inb_keys l hl))) shapeCasts_S1x128x128_S128x128)
      bitsLt_fp8e4m3_f32) (csCol s)) transposes_S128x128_p1_0_S128x128) bitsLt_bf16_f32) shapeCasts_S128x128_S128x128⟩

/-- The pieces of the transposed keys, the last written first. -/
def ktPieces (x2 : Rd S1x128x512 .fp8e4m3) (x4 : FVec Ideal S1x64x128 .bf16) (s : FVec Ideal S1x128 .f32) :
    List (View.Piece (Elt Ideal) S576x128 .bf16) :=
  [⟨Rect.unit (s := S576x128) ![512, 0] S64x128.size inb_kt_last,
      shapeCast S64x128 (shapeCast S64x128 x4 shapeCasts_S1x64x128_S64x128) shapeCasts_S64x128_S64x128⟩,
   ktPiece x2 s 3 (by omega), ktPiece x2 s 2 (by omega), ktPiece x2 s 1 (by omega), ktPiece x2 s 0 (by omega)]

/-! ## The reads of a point in terms of its blocks -/

/-- What the heads' part of the body reads, the blocks and the key scratch arrays given. -/
def plain (i : grid0.Coords) (x0 : FVec Ideal S1x8x576x128 .fp8e4m3) (x1 : FVec Ideal S1x8x128 .f32) (x2 : FVec Ideal S1x128x512 .fp8e4m3)
    (x5 : FVec Ideal S1x128x8x512 .bf16) (x6 : FVec Ideal S1x8x128 .f32) (x7 x8 x9 x10 : FVec Ideal S1x128x8x128 .fp8e5m2)
    (x11 : FVec Ideal S12x128 .f32) (kt : FVec Ideal S576x128 .bf16) (kr : FVec Ideal S128x64 .bf16) (cs : FVec Ideal S128x128 .f32) : Blk where
  x0 := fun r x => x0 (r.idx x)
  x1 := x1
  x2 := x2
  x6 := x6
  d := fun r x => View.canon (pieces (fun r x => x7 (r.idx x)) (fun r x => x8 (r.idx x)) (fun r x => x9 (r.idx x)) (fun r x => x10 (r.idx x))) (r.idx x)
  dl := mulf (rowSums (fun r x => x5 (r.idx x)) (fun r x => x7 (r.idx x)) (fun r x => x8 (r.idx x)) (fun r x => x9 (r.idx x))
      (fun r x => x10 (r.idx x)) 32 (by omega))
    (broadcastTo S8x128 (k0_pay202 (fun x => x11 ((Rect.unit (s := S12x128) (k0_off2 i) S1x128.size (k0_off2_inb i)).idx x))) broadcasts_S1x128_S8x128)
  dos := fun x => x11 ((Rect.unit (s := S12x128) (k0_off2 i) S1x128.size (k0_off2_inb i)).idx x)
  kt := kt
  kr := kr
  cs := cs

/-! ## Loads of a whole buffer after a whole store -/

theorem canon_last {S : Shape} {e : EltTy} (L L' : List (View.Piece (Elt Ideal) S e)) (off : Fin S.rank → ℕ)
    (inb : ∀ a, off a + S.size a ≤ S.size a) (w : S.Idx → Elt Ideal e) (h : ∀ a, off a = 0)
    (hL : L = (⟨Rect.unit off S.size inb, w⟩ : View.Piece (Elt Ideal) S e) :: L') : View.canon L = w := by
  rw [hL]; exact View.canon_cons_unit_lit inb w L' h

theorem readCov_last {S : Shape} {e : EltTy} {sig : RefSig} {κ : Kind} {sp : Space} (v : View sig κ sp S e)
    (L L' : List (View.Piece (Elt Ideal) S e)) (off off' : Fin S.rank → ℕ)
    (inb : ∀ a, off a + S.size a ≤ S.size a) (inb' : ∀ a, off' a + S.size a ≤ S.size a) (w : S.Idx → Elt Ideal e)
    (h : ∀ a, off a = 0) (h' : ∀ a, off' a = 0)
    (hL : L = (⟨Rect.unit off S.size inb, w⟩ : View.Piece (Elt Ideal) S e) :: L') :
    v.readCov L (Rect.unit off' S.size inb').toLoadRect = w := by
  rw [hL]; exact View.readCov_cons_unit_lit' v inb inb' w L' h h'

theorem readAt_whole {S : Shape} {e : EltTy} (v : Memref sig .tc .vmem S e) (hv : v.IsWhole) (X : S.Idx → Elt Ideal e) (off : Fin S.rank → ℕ)
    (inb : ∀ a, off a + S.size a ≤ S.size a) (h : ∀ a, off a = 0) :
    View.readAt (Elt Ideal) v.view (Rect.unit off S.size inb).toLoadRect (hv.unread X) = X := by
  rw [View.readAt_eq_ld, hv.read_unread]
  exact View.ld_unit_lit' inb X h

theorem readAt_part {S : Shape} {e : EltTy} (v : Memref sig .tc .vmem S e) (hv : v.IsWhole) (X : S.Idx → Elt Ideal e) (r : Rect S) :
    View.readAt (Elt Ideal) v.view r.toLoadRect (hv.unread X) = fun x => X (r.idx x) := by
  rw [View.readAt_eq_ld, hv.read_unread]

end Cert.KernelIdeal.Body

end
-- ==== Proof.RowsA.lean ====
/- The row sums of the body's run in case A, group by group: the words the run leaves are the regular form's. -/
module

public import proofs.«01_k».proof.Proof.Gen.KernelIdeal.Frame
public import proofs.«01_k».proof.Proof.Body

@[expose] public section

set_option maxRecDepth 16384

noncomputable section

open Idealize.ShloMosaic Idealize.ShloMosaic.TcCoe Idealize.SL.Sem

namespace Cert.KernelIdeal.RowsA

open Cert.KernelIdeal Cert.KernelIdeal.Gen Cert.KernelIdeal.Body

variable (c : Dev nD) (i : grid0.Coords)
  (arg7 : Memref sig .tc .vmem S1x128x8x512 .bf16) (harg7 : arg7.IsWhole)
  (arg9 : Memref sig .tc .vmem S1x128x8x128 .fp8e5m2) (harg9 : arg9.IsWhole)
  (arg10 : Memref sig .tc .vmem S1x128x8x128 .fp8e5m2) (harg10 : arg10.IsWhole)
  (arg11 : Memref sig .tc .vmem S1x128x8x128 .fp8e5m2) (harg11 : arg11.IsWhole)
  (arg12 : Memref sig .tc .vmem S1x128x8x128 .fp8e5m2) (harg12 : arg12.IsWhole)
  (arg13 : Memref sig .tc .vmem S12x128 .f32) (harg13 : arg13.IsWhole)
  (x5 : Vec Ideal S1x128x8x512 .bf16) (x7 x8 x9 x10 : Vec Ideal S1x128x8x128 .fp8e5m2) (x11 : Vec Ideal S12x128 .f32)

theorem s0 : kernelRun0_A.sl.v164 (F := Ideal) = rowSums (rdo arg7 harg7 x5) (rdd arg9 harg9 x7) (rdd arg10 harg10 x8) (rdd arg11 harg11 x9) (rdd arg12 harg12 x10) 0 (by omega) := rfl
theorem s1 : kernelRun0_A.sl.v235 c arg7 harg7 arg9 harg9 arg10 harg10 arg11 harg11 arg12 harg12 x5 x7 x8 x9 x10 =
    rowSums (rdo arg7 harg7 x5) (rdd arg9 harg9 x7) (rdd arg10 harg10 x8) (rdd arg11 harg11 x9) (rdd arg12 harg12 x10) 1 (by omega) :=
  rowSums_next (s0 arg7 harg7 arg9 harg9 arg10 harg10 arg11 harg11 arg12 harg12 x5 x7 x8 x9 x10) (p := kernelRun0_A.sl.v203 c arg7 harg7 arg9 harg9 arg10 harg10 arg11 harg11 arg12 harg12 x5 x7 x8 x9 x10) rfl rfl
theorem s2 : kernelRun0_A.sl.v306 c arg7 harg7 arg9 harg9 arg10 harg10 arg11 harg11 arg12 harg12 x5 x7 x8 x9 x10 =
    rowSums (rdo arg7 harg7 x5) (rdd arg9 harg9 x7) (rdd arg10 harg10 x8) (rdd arg11 harg11 x9) (rdd arg12 harg12 x10) 2 (by omega) :=
  rowSums_next (s1 c arg7 harg7 arg9 harg9 arg10 harg10 arg11 harg11 arg12 harg12 x5 x7 x8 x9 x10) (p := kernelRun0_A.sl.v274 c arg7 harg7 arg9 harg9 arg10 harg10 arg11 harg11 arg12 harg12 x5 x7 x8 x9 x10) rfl rfl
theorem s3 : kernelRun0_A.sl.v377 c arg7 harg7 arg9 harg9 arg10 harg10 arg11 harg11 arg12 harg12 x5 x7 x8 x9 x10 =
    rowSums (rdo arg7 harg7 x5) (rdd arg9 harg9 x7) (rdd arg10 harg10 x8) (rdd arg11 harg11 x9) (rdd arg12 harg12 x10) 3 (by omega) :=
  rowSums_next (s2 c arg7 harg7 arg9 harg9 arg10 harg10 arg11 harg11 arg12 harg12 x5 x7 x8 x9 x10) (p := kernelRun0_A.sl.v345 c arg7 harg7 arg9 harg9 arg10 harg10 arg11 harg11 arg12 harg12 x5 x7 x8 x9 x10) rfl rfl
theorem s4 : kernelRun0_A.sl.v448 c arg7 harg7 arg9 harg9 arg10 harg10 arg11 harg11 arg12 harg12 x5 x7 x8 x9 x10 =
    rowSums (rdo arg7 harg7 x5) (rdd arg9 harg9 x7) (rdd arg10 harg10 x8) (rdd arg11 harg11 x9) (rdd arg12 harg12 x10) 4 (by omega) :=
  rowSums_next (s3 c arg7 harg7 arg9 harg9 arg10 harg10 arg11 harg11 arg12 harg12 x5 x7 x8 x9 x10) (p := kernelRun0_A.sl.v416 c arg7 harg7 arg9 harg9 arg10 harg10 arg11 harg11 arg12 harg12 x5 x7 x8 x9 x10) rfl rfl
theorem s5 : kernelRun0_A.sl.v519 c arg7 harg7 arg9 harg9 arg10 harg10 arg11 harg11 arg12 harg12 x5 x7 x8 x9 x10 =
    rowSums (rdo arg7 harg7 x5) (rdd arg9 harg9 x7) (rdd arg10 harg10 x8) (rdd arg11 harg11 x9) (rdd arg12 harg12 x10) 5 (by omega) :=
  rowSums_next (s4 c arg7 harg7 arg9 harg9 arg10 harg10 arg11 harg11 arg12 harg12 x5 x7 x8 x9 x10) (p := kernelRun0_A.sl.v487 c arg7 harg7 arg9 harg9 arg10 harg10 arg11 harg11 arg12 harg12 x5 x7 x8 x9 x10) rfl rfl
theorem s6 : kernelRun0_A.sl.v590 c arg7 harg7 arg9 harg9 arg10 harg10 arg11 harg11 arg12 harg12 x5 x7 x8 x9 x10 =
    rowSums (rdo arg7 harg7 x5) (rdd arg9 harg9 x7) (rdd arg10 harg10 x8) (rdd arg11 harg11 x9) (rdd arg12 harg12 x10) 6 (by omega) :=
  rowSums_next (s5 c arg7 harg7 arg9 harg9 arg10 harg10 arg11 harg11 arg12 harg12 x5 x7 x8 x9 x10) (p := kernelRun0_A.sl.v558 c arg7 harg7 arg9 harg9 arg10 harg10 arg11 harg11 arg12 harg12 x5 x7 x8 x9 x10) rfl rfl
theorem s7 : kernelRun0_A.sl.v661 c arg7 harg7 arg9 harg9 arg10 harg10 arg11 harg11 arg12 harg12 x5 x7 x8 x9 x10 =
    rowSums (rdo arg7 harg7 x5) (rdd arg9 harg9 x7) (rdd arg10 harg10 x8) (rdd arg11 harg11 x9) (rdd arg12 harg12 x10) 7 (by omega) :=
  rowSums_next (s6 c arg7 harg7 arg9 harg9 arg10 harg10 arg11 harg11 arg12 harg12 x5 x7 x8 x9 x10) (p := kernelRun0_A.sl.v629 c arg7 harg7 arg9 harg9 arg10 harg10 arg11 harg11 arg12 harg12 x5 x7 x8 x9 x10) rfl rfl
theorem s8 : kernelRun0_A.sl.v732 c arg7 harg7 arg9 harg9 arg10 harg10 arg11 harg11 arg12 harg12 x5 x7 x8 x9 x10 =
    rowSums (rdo arg7 harg7 x5) (rdd arg9 harg9 x7) (rdd arg10 harg10 x8) (rdd arg11 harg11 x9) (rdd arg12 harg12 x10) 8 (by omega) :=
  rowSums_next (s7 c arg7 harg7 arg9 harg9 arg10 harg10 arg11 harg11 arg12 harg12 x5 x7 x8 x9 x10) (p := kernelRun0_A.sl.v700 c arg7 harg7 arg9 harg9 arg10 harg10 arg11 harg11 arg12 harg12 x5 x7 x8 x9 x10) rfl rfl
theorem s9 : kernelRun0_A.sl.v803 c arg7 harg7 arg9 harg9 arg10 harg10 arg11 harg11 arg12 harg12 x5 x7 x8 x9 x10 =
    rowSums (rdo arg7 harg7 x5) (rdd arg9 harg9 x7) (rdd arg10 harg10 x8) (rdd arg11 harg11 x9) (rdd arg12 harg12 x10) 9 (by omega) :=
  rowSums_next (s8 c arg7 harg7 arg9 harg9 arg10 harg10 arg11 harg11 arg12 harg12 x5 x7 x8 x9 x10) (p := kernelRun0_A.sl.v771 c arg7 harg7 arg9 harg9 arg10 harg10 arg11 harg11 arg12 harg12 x5 x7 x8 x9 x10) rfl rfl
theorem s10 : kernelRun0_A.sl.v874 c arg7 harg7 arg9 harg9 arg10 harg10 arg11 harg11 arg12 harg12 x5 x7 x8 x9 x10 =
    rowSums (rdo arg7 harg7 x5) (rdd arg9 harg9 x7) (rdd arg10 harg10 x8) (rdd arg11 harg11 x9) (rdd arg12 harg12 x10) 10 (by omega) :=
  rowSums_next (s9 c arg7 harg7 arg9 harg9 arg10 harg10 arg11 harg11 arg12 harg12 x5 x7 x8 x9 x10) (p := kernelRun0_A.sl.v842 c arg7 harg7 arg9 harg9 arg10 harg10 arg11 harg11 arg12 harg12 x5 x7 x8 x9 x10) rfl rfl
theorem s11 : kernelRun0_A.sl.v945 c arg7 harg7 arg9 harg9 arg10 harg10 arg11 harg11 arg12 harg12 x5 x7 x8 x9 x10 =
    rowSums (rdo arg7 harg7 x5) (rdd arg9 harg9 x7) (rdd arg10 harg10 x8) (rdd arg11 harg11 x9) (rdd arg12 harg12 x10) 11 (by omega) :=
  rowSums_next (s10 c arg7 harg7 arg9 harg9 arg10 harg10 arg11 harg11 arg12 harg12 x5 x7 x8 x9 x10) (p := kernelRun0_A.sl.v913 c arg7 harg7 arg9 harg9 arg10 harg10 arg11 harg11 arg12 harg12 x5 x7 x8 x9 x10) rfl rfl
theorem s12 : kernelRun0_A.sl.v1016 c arg7 harg7 arg9 harg9 arg10 harg10 arg11 harg11 arg12 harg12 x5 x7 x8 x9 x10 =
    rowSums (rdo arg7 harg7 x5) (rdd arg9 harg9 x7) (rdd arg10 harg10 x8) (rdd arg11 harg11 x9) (rdd arg12 harg12 x10) 12 (by omega) :=
  rowSums_next (s11 c arg7 harg7 arg9 harg9 arg10 harg10 arg11 harg11 arg12 harg12 x5 x7 x8 x9 x10) (p := kernelRun0_A.sl.v984 c arg7 harg7 arg9 harg9 arg10 harg10 arg11 harg11 arg12 harg12 x5 x7 x8 x9 x10) rfl rfl
theorem s13 : kernelRun0_A.sl.v1087 c arg7 harg7 arg9 harg9 arg10 harg10 arg11 harg11 arg12 harg12 x5 x7 x8 x9 x10 =
    rowSums (rdo arg7 harg7 x5) (rdd arg9 harg9 x7) (rdd arg10 harg10 x8) (rdd arg11 harg11 x9) (rdd arg12 harg12 x10) 13 (by omega) :=
  rowSums_next (s12 c arg7 harg7 arg9 harg9 arg10 harg10 arg11 harg11 arg12 harg12 x5 x7 x8 x9 x10) (p := kernelRun0_A.sl.v1055 c arg7 harg7 arg9 harg9 arg10 harg10 arg11 harg11 arg12 harg12 x5 x7 x8 x9 x10) rfl rfl
theorem s14 : kernelRun0_A.sl.v1158 c arg7 harg7 arg9 harg9 arg10 harg10 arg11 harg11 arg12 harg12 x5 x7 x8 x9 x10 =
    rowSums (rdo arg7 harg7 x5) (rdd arg9 harg9 x7) (rdd arg10 harg10 x8) (rdd arg11 harg11 x9) (rdd arg12 harg12 x10) 14 (by omega) :=
  rowSums_next (s13 c arg7 harg7 arg9 harg9 arg10 harg10 arg11 harg11 arg12 harg12 x5 x7 x8 x9 x10) (p := kernelRun0_A.sl.v1126 c arg7 harg7 arg9 harg9 arg10 harg10 arg11 harg11 arg12 harg12 x5 x7 x8 x9 x10) rfl rfl
theorem s15 : kernelRun0_A.sl.v1229 c arg7 harg7 arg9 harg9 arg10 harg10 arg11 harg11 arg12 harg12 x5 x7 x8 x9 x10 =
    rowSums (rdo arg7 harg7 x5) (rdd arg9 harg9 x7) (rdd arg10 harg10 x8) (rdd arg11 harg11 x9) (rdd arg12 harg12 x10) 15 (by omega) :=
  rowSums_next (s14 c arg7 harg7 arg9 harg9 arg10 harg10 arg11 harg11 arg12 harg12 x5 x7 x8 x9 x10) (p := kernelRun0_A.sl.v1197 c arg7 harg7 arg9 harg9 arg10 harg10 arg11 harg11 arg12 harg12 x5 x7 x8 x9 x10) rfl rfl
theorem s16 : kernelRun0_A.sl.v1300 c arg7 harg7 arg9 harg9 arg10 harg10 arg11 harg11 arg12 harg12 x5 x7 x8 x9 x10 =
    rowSums (rdo arg7 harg7 x5) (rdd arg9 harg9 x7) (rdd arg10 harg10 x8) (rdd arg11 harg11 x9) (rdd arg12 harg12 x10) 16 (by omega) :=
  rowSums_next (s15 c arg7 harg7 arg9 harg9 arg10 harg10 arg11 harg11 arg12 harg12 x5 x7 x8 x9 x10) (p := kernelRun0_A.sl.v1268 c arg7 harg7 arg9 harg9 arg10 harg10 arg11 harg11 arg12 harg12 x5 x7 x8 x9 x10) rfl rfl
theorem s17 : kernelRun0_A.sl.v1371 c arg7 harg7 arg9 harg9 arg10 harg10 arg11 harg11 arg12 harg12 x5 x7 x8 x9 x10 =
    rowSums (rdo arg7 harg7 x5) (rdd arg9 harg9 x7) (rdd arg10 harg10 x8) (rdd arg11 harg11 x9) (rdd arg12 harg12 x10) 17 (by omega) :=
  rowSums_next (s16 c arg7 harg7 arg9 harg9 arg10 harg10 arg11 harg11 arg12 harg12 x5 x7 x8 x9 x10) (p := kernelRun0_A.sl.v1339 c arg7 harg7 arg9 harg9 arg10 harg10 arg11 harg11 arg12 harg12 x5 x7 x8 x9 x10) rfl rfl
theorem s18 : kernelRun0_A.sl.v1442 c arg7 harg7 arg9 harg9 arg10 harg10 arg11 harg11 arg12 harg12 x5 x7 x8 x9 x10 =
    rowSums (rdo arg7 harg7 x5) (rdd arg9 harg9 x7) (rdd arg10 harg10 x8) (rdd arg11 harg11 x9) (rdd arg12 harg12 x10) 18 (by omega) :=
  rowSums_next (s17 c arg7 harg7 arg9 harg9 arg10 harg10 arg11 harg11 arg12 harg12 x5 x7 x8 x9 x10) (p := kernelRun0_A.sl.v1410 c arg7 harg7 arg9 harg9 arg10 harg10 arg11 harg11 arg12 harg12 x5 x7 x8 x9 x10) rfl rfl
theorem s19 : kernelRun0_A.sl.v1513 c arg7 harg7 arg9 harg9 arg10 harg10 arg11 harg11 arg12 harg12 x5 x7 x8 x9 x10 =
    rowSums (rdo arg7 harg7 x5) (rdd arg9 harg9 x7) (rdd arg10 harg10 x8) (rdd arg11 harg11 x9) (rdd arg12 harg12 x10) 19 (by omega) :=
  rowSums_next (s18 c arg7 harg7 arg9 harg9 arg10 harg10 arg11 harg11 arg12 harg12 x5 x7 x8 x9 x10) (p := kernelRun0_A.sl.v1481 c arg7 harg7 arg9 harg9 arg10 harg10 arg11 harg11 arg12 harg12 x5 x7 x8 x9 x10) rfl rfl
theorem s20 : kernelRun0_A.sl.v1584 c arg7 harg7 arg9 harg9 arg10 harg10 arg11 harg11 arg12 harg12 x5 x7 x8 x9 x10 =
    rowSums (rdo arg7 harg7 x5) (rdd arg9 harg9 x7) (rdd arg10 harg10 x8) (rdd arg11 harg11 x9) (rdd arg12 harg12 x10) 20 (by omega) :=
  rowSums_next (s19 c arg7 harg7 arg9 harg9 arg10 harg10 arg11 harg11 arg12 harg12 x5 x7 x8 x9 x10) (p := kernelRun0_A.sl.v1552 c arg7 harg7 arg9 harg9 arg10 harg10 arg11 harg11 arg12 harg12 x5 x7 x8 x9 x10) rfl rfl
theorem s21 : kernelRun0_A.sl.v1655 c arg7 harg7 arg9 harg9 arg10 harg10 arg11 harg11 arg12 harg12 x5 x7 x8 x9 x10 =
    rowSums (rdo arg7 harg7 x5) (rdd arg9 harg9 x7) (rdd arg10 harg10 x8) (rdd arg11 harg11 x9) (rdd arg12 harg12 x10) 21 (by omega) :=
  rowSums_next (s20 c arg7 harg7 arg9 harg9 arg10 harg10 arg11 harg11 arg12 harg12 x5 x7 x8 x9 x10) (p := kernelRun0_A.sl.v1623 c arg7 harg7 arg9 harg9 arg10 harg10 arg11 harg11 arg12 harg12 x5 x7 x8 x9 x10) rfl rfl
theorem s22 : kernelRun0_A.sl.v1726 c arg7 harg7 arg9 harg9 arg10 harg10 arg11 harg11 arg12 harg12 x5 x7 x8 x9 x10 =
    rowSums (rdo arg7 harg7 x5) (rdd arg9 harg9 x7) (rdd arg10 harg10 x8) (rdd arg11 harg11 x9) (rdd arg12 harg12 x10) 22 (by omega) :=
  rowSums_next (s21 c arg7 harg7 arg9 harg9 arg10 harg10 arg11 harg11 arg12 harg12 x5 x7 x8 x9 x10) (p := kernelRun0_A.sl.v1694 c arg7 harg7 arg9 harg9 arg10 harg10 arg11 harg11 arg12 harg12 x5 x7 x8 x9 x10) rfl rfl
theorem s23 : kernelRun0_A.sl.v1797 c arg7 harg7 arg9 harg9 arg10 harg10 arg11 harg11 arg12 harg12 x5 x7 x8 x9 x10 =
    rowSums (rdo arg7 harg7 x5) (rdd arg9 harg9 x7) (rdd arg10 harg10 x8) (rdd arg11 harg11 x9) (rdd arg12 harg12 x10) 23 (by omega) :=
  rowSums_next (s22 c arg7 harg7 arg9 harg9 arg10 harg10 arg11 harg11 arg12 harg12 x5 x7 x8 x9 x10) (p := kernelRun0_A.sl.v1765 c arg7 harg7 arg9 harg9 arg10 harg10 arg11 harg11 arg12 harg12 x5 x7 x8 x9 x10) rfl rfl
theorem s24 : kernelRun0_A.sl.v1868 c arg7 harg7 arg9 harg9 arg10 harg10 arg11 harg11 arg12 harg12 x5 x7 x8 x9 x10 =
    rowSums (rdo arg7 harg7 x5) (rdd arg9 harg9 x7) (rdd arg10 harg10 x8) (rdd arg11 harg11 x9) (rdd arg12 harg12 x10) 24 (by omega) :=
  rowSums_next (s23 c arg7 harg7 arg9 harg9 arg10 harg10 arg11 harg11 arg12 harg12 x5 x7 x8 x9 x10) (p := kernelRun0_A.sl.v1836 c arg7 harg7 arg9 harg9 arg10 harg10 arg11 harg11 arg12 harg12 x5 x7 x8 x9 x10) rfl rfl
theorem s25 : kernelRun0_A.sl.v1939 c arg7 harg7 arg9 harg9 arg10 harg10 arg11 harg11 arg12 harg12 x5 x7 x8 x9 x10 =
    rowSums (rdo arg7 harg7 x5) (rdd arg9 harg9 x7) (rdd arg10 harg10 x8) (rdd arg11 harg11 x9) (rdd arg12 harg12 x10) 25 (by omega) :=
  rowSums_next (s24 c arg7 harg7 arg9 harg9 arg10 harg10 arg11 harg11 arg12 harg12 x5 x7 x8 x9 x10) (p := kernelRun0_A.sl.v1907 c arg7 harg7 arg9 harg9 arg10 harg10 arg11 harg11 arg12 harg12 x5 x7 x8 x9 x10) rfl rfl
theorem s26 : kernelRun0_A.sl.v2010 c arg7 harg7 arg9 harg9 arg10 harg10 arg11 harg11 arg12 harg12 x5 x7 x8 x9 x10 =
    rowSums (rdo arg7 harg7 x5) (rdd arg9 harg9 x7) (rdd arg10 harg10 x8) (rdd arg11 harg11 x9) (rdd arg12 harg12 x10) 26 (by omega) :=
  rowSums_next (s25 c arg7 harg7 arg9 harg9 arg10 harg10 arg11 harg11 arg12 harg12 x5 x7 x8 x9 x10) (p := kernelRun0_A.sl.v1978 c arg7 harg7 arg9 harg9 arg10 harg10 arg11 harg11 arg12 harg12 x5 x7 x8 x9 x10) rfl rfl
theorem s27 : kernelRun0_A.sl.v2081 c arg7 harg7 arg9 harg9 arg10 harg10 arg11 harg11 arg12 harg12 x5 x7 x8 x9 x10 =
    rowSums (rdo arg7 harg7 x5) (rdd arg9 harg9 x7) (rdd arg10 harg10 x8) (rdd arg11 harg11 x9) (rdd arg12 harg12 x10) 27 (by omega) :=
  rowSums_next (s26 c arg7 harg7 arg9 harg9 arg10 harg10 arg11 harg11 arg12 harg12 x5 x7 x8 x9 x10) (p := kernelRun0_A.sl.v2049 c arg7 harg7 arg9 harg9 arg10 harg10 arg11 harg11 arg12 harg12 x5 x7 x8 x9 x10) rfl rfl
theorem s28 : kernelRun0_A.sl.v2152 c arg7 harg7 arg9 harg9 arg10 harg10 arg11 harg11 arg12 harg12 x5 x7 x8 x9 x10 =
    rowSums (rdo arg7 harg7 x5) (rdd arg9 harg9 x7) (rdd arg10 harg10 x8) (rdd arg11 harg11 x9) (rdd arg12 harg12 x10) 28 (by omega) :=
  rowSums_next (s27 c arg7 harg7 arg9 harg9 arg10 harg10 arg11 harg11 arg12 harg12 x5 x7 x8 x9 x10) (p := kernelRun0_A.sl.v2120 c arg7 harg7 arg9 harg9 arg10 harg10 arg11 harg11 arg12 harg12 x5 x7 x8 x9 x10) rfl rfl
theorem s29 : kernelRun0_A.sl.r_4 c arg7 harg7 arg9 harg9 arg10 harg10 arg11 harg11 arg12 harg12 x5 x7 x8 x9 x10 =
    rowSums (rdo arg7 harg7 x5) (rdd arg9 harg9 x7) (rdd arg10 harg10 x8) (rdd arg11 harg11 x9) (rdd arg12 harg12 x10) 29 (by omega) :=
  rowSums_next (s28 c arg7 harg7 arg9 harg9 arg10 harg10 arg11 harg11 arg12 harg12 x5 x7 x8 x9 x10) (p := kernelRun0_A.sl.v2191 c arg7 harg7 arg9 harg9 arg10 harg10 arg11 harg11 arg12 harg12 x5 x7 x8 x9 x10) rfl rfl
theorem s30 : kernelRun0_A.sl.r_9 c arg7 harg7 arg9 harg9 arg10 harg10 arg11 harg11 arg12 harg12 x5 x7 x8 x9 x10 =
    rowSums (rdo arg7 harg7 x5) (rdd arg9 harg9 x7) (rdd arg10 harg10 x8) (rdd arg11 harg11 x9) (rdd arg12 harg12 x10) 30 (by omega) :=
  rowSums_next (s29 c arg7 harg7 arg9 harg9 arg10 harg10 arg11 harg11 arg12 harg12 x5 x7 x8 x9 x10) (p := part (rdo arg7 harg7 x5) (rdd arg9 harg9 x7) (rdd arg10 harg10 x8) (rdd arg11 harg11 x9) (rdd arg12 harg12 x10) 29 (by omega)) rfl rfl
theorem s31 : kernelRun0_A.sl.r_11 c arg7 harg7 arg9 harg9 arg10 harg10 arg11 harg11 arg12 harg12 x5 x7 x8 x9 x10 =
    rowSums (rdo arg7 harg7 x5) (rdd arg9 harg9 x7) (rdd arg10 harg10 x8) (rdd arg11 harg11 x9) (rdd arg12 harg12 x10) 31 (by omega) :=
  rowSums_next (s30 c arg7 harg7 arg9 harg9 arg10 harg10 arg11 harg11 arg12 harg12 x5 x7 x8 x9 x10) (p := part (rdo arg7 harg7 x5) (rdd arg9 harg9 x7) (rdd arg10 harg10 x8) (rdd arg11 harg11 x9) (rdd arg12 harg12 x10) 30 (by omega)) rfl rfl

/-- The scaled row sums. -/
theorem delta_eq : kernelRun0_A.sl.r_16 c i arg7 harg7 arg9 harg9 arg10 harg10 arg11 harg11 arg12 harg12 arg13 harg13 x5 x7 x8 x9 x10 x11 =
    mulf (rowSums (rdo arg7 harg7 x5) (rdd arg9 harg9 x7) (rdd arg10 harg10 x8) (rdd arg11 harg11 x9) (rdd arg12 harg12 x10) 32 (by omega)) (broadcastTo S8x128 (kernelRun0_A.sl.r_15 c i arg13 harg13 x11) broadcasts_S1x128_S8x128) := by
  refine Eq.trans (b := mulf (lane (part (rdo arg7 harg7 x5) (rdd arg9 harg9 x7) (rdd arg10 harg10 x8) (rdd arg11 harg11 x9) (rdd arg12 harg12 x10) 31 (by omega)) (lane (part (rdo arg7 harg7 x5) (rdd arg9 harg9 x7) (rdd arg10 harg10 x8) (rdd arg11 harg11 x9) (rdd arg12 harg12 x10) 31 (by omega)) (lane (part (rdo arg7 harg7 x5) (rdd arg9 harg9 x7) (rdd arg10 harg10 x8) (rdd arg11 harg11 x9) (rdd arg12 harg12 x10) 31 (by omega))
    (lane (part (rdo arg7 harg7 x5) (rdd arg9 harg9 x7) (rdd arg10 harg10 x8) (rdd arg11 harg11 x9) (rdd arg12 harg12 x10) 31 (by omega)) (kernelRun0_A.sl.r_11 c arg7 harg7 arg9 harg9 arg10 harg10 arg11 harg11 arg12 harg12 x5 x7 x8 x9 x10) 31 0 (by omega)) 31 1 (by omega)) 31 2 (by omega)) 31 3 (by omega))
    (broadcastTo S8x128 (kernelRun0_A.sl.r_15 c i arg13 harg13 x11) broadcasts_S1x128_S8x128)) rfl ?_
  exact congrArg (fun v => mulf v _) (rowSums_next (s31 c arg7 harg7 arg9 harg9 arg10 harg10 arg11 harg11 arg12 harg12 x5 x7 x8 x9 x10) rfl rfl)

end Cert.KernelIdeal.RowsA

end
-- ==== Proof.CaseA.lean ====
/- The body's run in case A: what it leaves in the output blocks, in the regular form. -/
module

public import proofs.«01_k».proof.Proof.Gen.KernelIdeal.Frame
public import proofs.«01_k».proof.Proof.RowsA

@[expose] public section

set_option maxRecDepth 16384

noncomputable section

open Idealize.ShloMosaic Idealize.ShloMosaic.TcCoe Idealize.SL.Sem

namespace Cert.KernelIdeal.CaseA

open Cert.KernelIdeal Cert.KernelIdeal.Gen Cert.KernelIdeal.Body

variable (c : Dev nD) (i : grid0.Coords)
  (arg2 : Memref sig .tc .vmem S1x8x576x128 .fp8e4m3) (harg2 : arg2.IsWhole)
  (arg3 : Memref sig .tc .vmem S1x8x128 .f32) (harg3 : arg3.IsWhole)
  (arg4 : Memref sig .tc .vmem S1x128x512 .fp8e4m3) (harg4 : arg4.IsWhole)
  (arg5 : Memref sig .tc .vmem S12x128 .f32) (harg5 : arg5.IsWhole)
  (arg6 : Memref sig .tc .vmem S1x64x128 .bf16) (harg6 : arg6.IsWhole)
  (arg7 : Memref sig .tc .vmem S1x128x8x512 .bf16) (harg7 : arg7.IsWhole)
  (arg8 : Memref sig .tc .vmem S1x8x128 .f32) (harg8 : arg8.IsWhole)
  (arg9 : Memref sig .tc .vmem S1x128x8x128 .fp8e5m2) (harg9 : arg9.IsWhole)
  (arg10 : Memref sig .tc .vmem S1x128x8x128 .fp8e5m2) (harg10 : arg10.IsWhole)
  (arg11 : Memref sig .tc .vmem S1x128x8x128 .fp8e5m2) (harg11 : arg11.IsWhole)
  (arg12 : Memref sig .tc .vmem S1x128x8x128 .fp8e5m2) (harg12 : arg12.IsWhole)
  (arg13 : Memref sig .tc .vmem S12x128 .f32) (harg13 : arg13.IsWhole)
  (arg14 : Memref sig .tc .vmem S1x8x576x128 .bf16) (harg14 : arg14.IsWhole)
  (arg15 : Memref sig .tc .vmem S1x128x512 .f32) (harg15 : arg15.IsWhole)
  (arg16 : Memref sig .tc .vmem S1x64x128 .f32) (harg16 : arg16.IsWhole)
  (arg17 : Memref sig .tc .vmem S576x128 .bf16) (harg17 : arg17.IsWhole)
  (arg18 : Memref sig .tc .vmem S128x64 .bf16) (harg18 : arg18.IsWhole)
  (arg19 : Memref sig .tc .vmem S128x128 .f32) (harg19 : arg19.IsWhole)
  (arg20 : Memref sig .tc .vmem S128x64 .f32) (harg20 : arg20.IsWhole)
  (arg21 : Memref sig .tc .vmem S1024x512 .fp8e5m2) (harg21 : arg21.IsWhole)
  (hc0 : cond0_0 i) (hc1 : ¬cond0_1 i)
  (x0 : Vec Ideal S1x8x576x128 .fp8e4m3)
  (x1 : Vec Ideal S1x8x128 .f32)
  (x2 : Vec Ideal S1x128x512 .fp8e4m3)
  (x3 : Vec Ideal S12x128 .f32)
  (x4 : Vec Ideal S1x64x128 .bf16)
  (x5 : Vec Ideal S1x128x8x512 .bf16)
  (x6 : Vec Ideal S1x8x128 .f32)
  (x7 : Vec Ideal S1x128x8x128 .fp8e5m2)
  (x8 : Vec Ideal S1x128x8x128 .fp8e5m2)
  (x9 : Vec Ideal S1x128x8x128 .fp8e5m2)
  (x10 : Vec Ideal S1x128x8x128 .fp8e5m2)
  (x11 : Vec Ideal S12x128 .f32)

/-- What the heads' part of the body reads. -/
abbrev blk : Blk :=
  ⟨rdq arg2 harg2 x0,
    View.readAt (Elt Ideal) arg3.view (Rect.unit (s := S1x8x128) ![0, 0, 0] S1x8x128.size (by decide)).toLoadRect (harg3.unread x1),
    View.readAt (Elt Ideal) arg4.view (Rect.unit (s := S1x128x512) ![0, 0, 0] S1x128x512.size (by decide)).toLoadRect (harg4.unread x2),
    View.readAt (Elt Ideal) arg8.view (Rect.unit (s := S1x8x128) ![0, 0, 0] S1x8x128.size (by decide)).toLoadRect (harg8.unread x6),
    fun r => arg21.view.readCov (Val := Elt Ideal) (kernelRun0_A.sl.HS4_32 c arg9 harg9 arg10 harg10 arg11 harg11 arg12 harg12 x7 x8 x9 x10) r.toLoadRect,
    (kernelRun0_A.sl.r_16 c i arg7 harg7 arg9 harg9 arg10 harg10 arg11 harg11 arg12 harg12 arg13 harg13 x5 x7 x8 x9 x10 x11),
    (kernelRun0_A.sl.r_14 c i arg13 harg13 x11),
    (kernelRun0_A.sl.v2505 c i arg4 harg4 arg5 harg5 arg6 harg6 arg17 hc0 x2 x3 x4),
    (kernelRun0_A.sl.v2475 c arg6 harg6 arg18 x4),
    (kernelRun0_A.sl.v2457 c i arg5 harg5 arg19 hc0 x3)⟩

/-- The gradient scratch array's pieces. -/
theorem pieces_eq : kernelRun0_A.sl.HS4_32 c arg9 harg9 arg10 harg10 arg11 harg11 arg12 harg12 x7 x8 x9 x10 = pieces (rdd arg9 harg9 x7) (rdd arg10 harg10 x8) (rdd arg11 harg11 x9) (rdd arg12 harg12 x10) := rfl

theorem keys_cs : kernelRun0_A.sl.v2783 c i arg5 harg5 hc0 x3 = csCol (fun x => x3 ((Rect.unit (s := S12x128) (k0_off1 i) S1x128.size (k0_off1_inb i hc0)).idx x)) :=
  Eq.trans (b := shapeCast S128x128 (csCol (View.readAt (Elt Ideal) arg5.view (Rect.unit (s := S12x128) (k0_off1 i) S1x128.size (k0_off1_inb i hc0)).toLoadRect (harg5.unread x3))) shapeCasts_S128x128_S128x128) rfl ((shapeCast_self _ _).trans <| congrArg csCol (readAt_part arg5 harg5 x3 _))

theorem keys_kr : kernelRun0_A.sl.v2830 c arg6 harg6 x4 = krT x4 :=
  Eq.trans (b := krT (View.readAt (Elt Ideal) arg6.view (Rect.unit (s := S1x64x128) ![0, 0, 0] S1x64x128.size (by decide)).toLoadRect (harg6.unread x4))) rfl (congrArg krT (readAt_whole arg6 harg6 x4 _ _ (by decide)))

theorem keys_kt : kernelRun0_A.sl.HS0_5 c i arg4 harg4 arg5 harg5 arg6 harg6 hc0 x2 x3 x4 = ktPieces (fun r x => x2 (r.idx x)) x4 (fun x => x3 ((Rect.unit (s := S12x128) (k0_off1 i) S1x128.size (k0_off1_inb i hc0)).idx x)) := by
  refine Eq.trans (b := ktPieces (fun r => View.readAt (Elt Ideal) arg4.view r.toLoadRect (harg4.unread x2)) (View.readAt (Elt Ideal) arg6.view (Rect.unit (s := S1x64x128) ![0, 0, 0] S1x64x128.size (by decide)).toLoadRect (harg6.unread x4)) (View.readAt (Elt Ideal) arg5.view (Rect.unit (s := S12x128) (k0_off1 i) S1x128.size (k0_off1_inb i hc0)).toLoadRect (harg5.unread x3))) rfl ?_
  rw [readAt_whole arg6 harg6 x4 _ _ (by decide), readAt_part arg5 harg5 x3 _]
  simp only [readAt_part]
  rfl

/-- The reads, in terms of the blocks. -/
theorem blk_eq : (blk c i arg2 harg2 arg3 harg3 arg4 harg4 arg5 harg5 arg6 harg6 arg7 harg7 arg8 harg8 arg9 harg9 arg10 harg10 arg11 harg11 arg12 harg12 arg13 harg13 arg17 arg18 arg19 arg21 hc0 x0 x1 x2 x3 x4 x5 x6 x7 x8 x9 x10 x11) = plain i x0 x1 x2 x5 x6 x7 x8 x9 x10 x11 (View.canon (ktPieces (fun r x => x2 (r.idx x)) x4 (fun x => x3 ((Rect.unit (s := S12x128) (k0_off1 i) S1x128.size (k0_off1_inb i hc0)).idx x)))) (krT x4) (csCol (fun x => x3 ((Rect.unit (s := S12x128) (k0_off1 i) S1x128.size (k0_off1_inb i hc0)).idx x))) := by
  have e0 : rdq arg2 harg2 x0 = fun r x => x0 (r.idx x) := funext fun r => readAt_part arg2 harg2 x0 r
  have e5 : rdo arg7 harg7 x5 = fun r x => x5 (r.idx x) := funext fun r => readAt_part arg7 harg7 x5 r
  have e7 : rdd arg9 harg9 x7 = fun r x => x7 (r.idx x) := funext fun r => readAt_part arg9 harg9 x7 r
  have e8 : rdd arg10 harg10 x8 = fun r x => x8 (r.idx x) := funext fun r => readAt_part arg10 harg10 x8 r
  have e9 : rdd arg11 harg11 x9 = fun r x => x9 (r.idx x) := funext fun r => readAt_part arg11 harg11 x9 r
  have e10 : rdd arg12 harg12 x10 = fun r x => x10 (r.idx x) := funext fun r => readAt_part arg12 harg12 x10 r
  have e14 : kernelRun0_A.sl.r_14 c i arg13 harg13 x11 = fun x => x11 ((Rect.unit (s := S12x128) (k0_off2 i) S1x128.size (k0_off2_inb i)).idx x) :=
    readAt_part arg13 harg13 x11 _
  have e15 : kernelRun0_A.sl.r_15 c i arg13 harg13 x11 = k0_pay202 (fun x => x11 ((Rect.unit (s := S12x128) (k0_off2 i) S1x128.size (k0_off2_inb i)).idx x)) :=
    congrArg k0_pay202 e14
  unfold blk plain
  rw [RowsA.delta_eq, pieces_eq, e0, e5, e7, e8, e9, e10, e14, e15, readAt_whole arg3 harg3 x1 _ _ (by decide),
    readAt_whole arg4 harg4 x2 _ _ (by decide), readAt_whole arg8 harg8 x6 _ _ (by decide)]
  have k0 : kernelRun0_A.sl.v2505 c i arg4 harg4 arg5 harg5 arg6 harg6 arg17 hc0 x2 x3 x4 = View.canon (ktPieces (fun r x => x2 (r.idx x)) x4 (fun x => x3 ((Rect.unit (s := S12x128) (k0_off1 i) S1x128.size (k0_off1_inb i hc0)).idx x))) := by
    unfold kernelRun0_A.sl.v2505
    rw [View.readCov_eq_canon', keys_kt]
    exact View.ld_unit_lit' _ _ (by decide)
  have k1 : kernelRun0_A.sl.v2475 c arg6 harg6 arg18 x4 = krT x4 := by
    unfold kernelRun0_A.sl.v2475
    exact (readCov_last _ _ _ _ _ _ _ _ (by decide) (by decide) rfl).trans (keys_kr ..)
  have k2 : kernelRun0_A.sl.v2457 c i arg5 harg5 arg19 hc0 x3 = csCol (fun x => x3 ((Rect.unit (s := S12x128) (k0_off1 i) S1x128.size (k0_off1_inb i hc0)).idx x)) := by
    unfold kernelRun0_A.sl.v2457
    exact (readCov_last _ _ _ _ _ _ _ _ (by decide) (by decide) rfl).trans (keys_cs ..)
  rw [k0, k1, k2]
  simp only [View.readCov_eq_canon']
  rfl

theorem dc : View.canon (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11).2.1 = dcAll (blk c i arg2 harg2 arg3 harg3 arg4 harg4 arg5 harg5 arg6 harg6 arg7 harg7 arg8 harg8 arg9 harg9 arg10 harg10 arg11 harg11 arg12 harg12 arg13 harg13 arg17 arg18 arg19 arg21 hc0 x0 x1 x2 x3 x4 x5 x6 x7 x8 x9 x10 x11)
    (kernelRun0_A.sl.v2524 (F := Ideal) c arg15) := by
  refine (canon_last _ _ _ _ _ (by decide) rfl).trans ?_
  refine (Eq.trans (b := dcStep (blk c i arg2 harg2 arg3 harg3 arg4 harg4 arg5 harg5 arg6 harg6 arg7 harg7 arg8 harg8 arg9 harg9 arg10 harg10 arg11 harg11 arg12 harg12 arg13 harg13 arg17 arg18 arg19 arg21 hc0 x0 x1 x2 x3 x4 x5 x6 x7 x8 x9 x10 x11) 6 (by omega) (kernelRun0_A.sl.v2758 c i arg2 harg2 arg3 harg3 arg4 harg4 arg5 harg5 arg6 harg6 arg7 harg7 arg8 harg8 arg9 harg9 arg10 harg10 arg11 harg11 arg12 harg12 arg13 harg13 arg15 arg18 arg19 arg21 hc0 x0 x1 x2 x3 x4 x5 x6 x7 x8 x9 x10 x11)) (by dsimp only [dcStep, dkrStep, dqPieces, dqLo, dqHi, Dq, Dsq, Pdo, Ds, P, qNope, qRope, doPair, dosS, qs, rowPair]; exact rfl) rfl).trans (congrArg (dcStep _ 6 _) ?_)
  unfold kernelRun0_A.sl.v2758
  refine (readCov_last _ _ _ _ _ _ _ _ (by decide) (by decide) rfl).trans ?_
  refine Eq.trans (b := dcStep (blk c i arg2 harg2 arg3 harg3 arg4 harg4 arg5 harg5 arg6 harg6 arg7 harg7 arg8 harg8 arg9 harg9 arg10 harg10 arg11 harg11 arg12 harg12 arg13 harg13 arg17 arg18 arg19 arg21 hc0 x0 x1 x2 x3 x4 x5 x6 x7 x8 x9 x10 x11) 4 (by omega) (kernelRun0_A.sl.v2680 c i arg2 harg2 arg3 harg3 arg4 harg4 arg5 harg5 arg6 harg6 arg7 harg7 arg8 harg8 arg9 harg9 arg10 harg10 arg11 harg11 arg12 harg12 arg13 harg13 arg15 arg18 arg19 arg21 hc0 x0 x1 x2 x3 x4 x5 x6 x7 x8 x9 x10 x11)) (by dsimp only [dcStep, dkrStep, dqPieces, dqLo, dqHi, Dq, Dsq, Pdo, Ds, P, qNope, qRope, doPair, dosS, qs, rowPair]; exact rfl) (congrArg (dcStep _ 4 _) ?_)
  unfold kernelRun0_A.sl.v2680
  refine (readCov_last _ _ _ _ _ _ _ _ (by decide) (by decide) rfl).trans ?_
  refine Eq.trans (b := dcStep (blk c i arg2 harg2 arg3 harg3 arg4 harg4 arg5 harg5 arg6 harg6 arg7 harg7 arg8 harg8 arg9 harg9 arg10 harg10 arg11 harg11 arg12 harg12 arg13 harg13 arg17 arg18 arg19 arg21 hc0 x0 x1 x2 x3 x4 x5 x6 x7 x8 x9 x10 x11) 2 (by omega) (kernelRun0_A.sl.v2602 c i arg2 harg2 arg3 harg3 arg4 harg4 arg5 harg5 arg6 harg6 arg7 harg7 arg8 harg8 arg9 harg9 arg10 harg10 arg11 harg11 arg12 harg12 arg13 harg13 arg15 arg18 arg19 arg21 hc0 x0 x1 x2 x3 x4 x5 x6 x7 x8 x9 x10 x11)) (by dsimp only [dcStep, dkrStep, dqPieces, dqLo, dqHi, Dq, Dsq, Pdo, Ds, P, qNope, qRope, doPair, dosS, qs, rowPair]; exact rfl) (congrArg (dcStep _ 2 _) ?_)
  unfold kernelRun0_A.sl.v2602
  refine (readCov_last _ _ _ _ _ _ _ _ (by decide) (by decide) rfl).trans ?_
  refine Eq.trans (b := dcStep (blk c i arg2 harg2 arg3 harg3 arg4 harg4 arg5 harg5 arg6 harg6 arg7 harg7 arg8 harg8 arg9 harg9 arg10 harg10 arg11 harg11 arg12 harg12 arg13 harg13 arg17 arg18 arg19 arg21 hc0 x0 x1 x2 x3 x4 x5 x6 x7 x8 x9 x10 x11) 0 (by omega) (kernelRun0_A.sl.v2524 (F := Ideal) c arg15)) (by dsimp only [dcStep, dkrStep, dqPieces, dqLo, dqHi, Dq, Dsq, Pdo, Ds, P, qNope, qRope, doPair, dosS, qs, rowPair]; exact rfl) rfl

theorem dkr : View.canon (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11).2.2.2.2.2.2.1 = dkrAll (blk c i arg2 harg2 arg3 harg3 arg4 harg4 arg5 harg5 arg6 harg6 arg7 harg7 arg8 harg8 arg9 harg9 arg10 harg10 arg11 harg11 arg12 harg12 arg13 harg13 arg17 arg18 arg19 arg21 hc0 x0 x1 x2 x3 x4 x5 x6 x7 x8 x9 x10 x11)
    (kernelRun0_A.sl.v2533 (F := Ideal) c arg20) := by
  refine (canon_last _ _ _ _ _ (by decide) rfl).trans ?_
  refine Eq.trans (b := dkrStep (blk c i arg2 harg2 arg3 harg3 arg4 harg4 arg5 harg5 arg6 harg6 arg7 harg7 arg8 harg8 arg9 harg9 arg10 harg10 arg11 harg11 arg12 harg12 arg13 harg13 arg17 arg18 arg19 arg21 hc0 x0 x1 x2 x3 x4 x5 x6 x7 x8 x9 x10 x11) 6 (by omega) (kernelRun0_A.sl.v2767 c i arg2 harg2 arg3 harg3 arg4 harg4 arg5 harg5 arg6 harg6 arg7 harg7 arg8 harg8 arg9 harg9 arg10 harg10 arg11 harg11 arg12 harg12 arg13 harg13 arg18 arg19 arg20 arg21 hc0 x0 x1 x2 x3 x4 x5 x6 x7 x8 x9 x10 x11)) (by dsimp only [dcStep, dkrStep, dqPieces, dqLo, dqHi, Dq, Dsq, Pdo, Ds, P, qNope, qRope, doPair, dosS, qs, rowPair]; exact rfl) (congrArg (dkrStep _ 6 _) ?_)
  unfold kernelRun0_A.sl.v2767
  refine (readCov_last _ _ _ _ _ _ _ _ (by decide) (by decide) rfl).trans ?_
  refine Eq.trans (b := dkrStep (blk c i arg2 harg2 arg3 harg3 arg4 harg4 arg5 harg5 arg6 harg6 arg7 harg7 arg8 harg8 arg9 harg9 arg10 harg10 arg11 harg11 arg12 harg12 arg13 harg13 arg17 arg18 arg19 arg21 hc0 x0 x1 x2 x3 x4 x5 x6 x7 x8 x9 x10 x11) 4 (by omega) (kernelRun0_A.sl.v2689 c i arg2 harg2 arg3 harg3 arg4 harg4 arg5 harg5 arg6 harg6 arg7 harg7 arg8 harg8 arg9 harg9 arg10 harg10 arg11 harg11 arg12 harg12 arg13 harg13 arg18 arg19 arg20 arg21 hc0 x0 x1 x2 x3 x4 x5 x6 x7 x8 x9 x10 x11)) (by dsimp only [dcStep, dkrStep, dqPieces, dqLo, dqHi, Dq, Dsq, Pdo, Ds, P, qNope, qRope, doPair, dosS, qs, rowPair]; exact rfl) (congrArg (dkrStep _ 4 _) ?_)
  unfold kernelRun0_A.sl.v2689
  refine (readCov_last _ _ _ _ _ _ _ _ (by decide) (by decide) rfl).trans ?_
  refine Eq.trans (b := dkrStep (blk c i arg2 harg2 arg3 harg3 arg4 harg4 arg5 harg5 arg6 harg6 arg7 harg7 arg8 harg8 arg9 harg9 arg10 harg10 arg11 harg11 arg12 harg12 arg13 harg13 arg17 arg18 arg19 arg21 hc0 x0 x1 x2 x3 x4 x5 x6 x7 x8 x9 x10 x11) 2 (by omega) (kernelRun0_A.sl.v2611 c i arg2 harg2 arg3 harg3 arg4 harg4 arg5 harg5 arg6 harg6 arg7 harg7 arg8 harg8 arg9 harg9 arg10 harg10 arg11 harg11 arg12 harg12 arg13 harg13 arg18 arg19 arg20 arg21 hc0 x0 x1 x2 x3 x4 x5 x6 x7 x8 x9 x10 x11)) (by dsimp only [dcStep, dkrStep, dqPieces, dqLo, dqHi, Dq, Dsq, Pdo, Ds, P, qNope, qRope, doPair, dosS, qs, rowPair]; exact rfl) (congrArg (dkrStep _ 2 _) ?_)
  unfold kernelRun0_A.sl.v2611
  refine (readCov_last _ _ _ _ _ _ _ _ (by decide) (by decide) rfl).trans ?_
  refine Eq.trans (b := dkrStep (blk c i arg2 harg2 arg3 harg3 arg4 harg4 arg5 harg5 arg6 harg6 arg7 harg7 arg8 harg8 arg9 harg9 arg10 harg10 arg11 harg11 arg12 harg12 arg13 harg13 arg17 arg18 arg19 arg21 hc0 x0 x1 x2 x3 x4 x5 x6 x7 x8 x9 x10 x11) 0 (by omega) (kernelRun0_A.sl.v2533 (F := Ideal) c arg20)) (by dsimp only [dcStep, dkrStep, dqPieces, dqLo, dqHi, Dq, Dsq, Pdo, Ds, P, qNope, qRope, doPair, dosS, qs, rowPair]; exact rfl) rfl

theorem dq : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11).1 = dqPieces (blk c i arg2 harg2 arg3 harg3 arg4 harg4 arg5 harg5 arg6 harg6 arg7 harg7 arg8 harg8 arg9 harg9 arg10 harg10 arg11 harg11 arg12 harg12 arg13 harg13 arg17 arg18 arg19 arg21 hc0 x0 x1 x2 x3 x4 x5 x6 x7 x8 x9 x10 x11) := (by dsimp only [dcStep, dkrStep, dqPieces, dqLo, dqHi, Dq, Dsq, Pdo, Ds, P, qNope, qRope, doPair, dosS, qs, rowPair]; exact rfl)

/-! ## The results in terms of the blocks -/

theorem dq_eq : View.canon (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11).1 = View.canon (dqPieces (plain i x0 x1 x2 x5 x6 x7 x8 x9 x10 x11 (View.canon (ktPieces (fun r x => x2 (r.idx x)) x4 (fun x => x3 ((Rect.unit (s := S12x128) (k0_off1 i) S1x128.size (k0_off1_inb i hc0)).idx x)))) (krT x4) (csCol (fun x => x3 ((Rect.unit (s := S12x128) (k0_off1 i) S1x128.size (k0_off1_inb i hc0)).idx x))))) :=
  congrArg View.canon ((dq ..).trans (congrArg dqPieces (blk_eq ..)))

theorem zero_dc : kernelRun0_A.sl.v2524 (F := Ideal) c arg15 = fun _ => (0 : EReal) := by
  unfold kernelRun0_A.sl.v2524
  refine (readCov_last _ _ _ _ _ _ _ _ (by decide) (by decide) rfl).trans ?_
  unfold kernelRun0_A.sl.v2831
  funext j
  exact Ideal.ofBits_zero_f32

theorem zero_dkr : kernelRun0_A.sl.v2533 (F := Ideal) c arg20 = fun _ => (0 : EReal) := by
  unfold kernelRun0_A.sl.v2533
  refine (readCov_last _ _ _ _ _ _ _ _ (by decide) (by decide) rfl).trans ?_
  unfold kernelRun0_A.sl.v2836
  refine (shapeCast_self _ _).trans ?_
  funext j
  exact Ideal.ofBits_zero_f32

theorem kt_eq : View.canon (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11).2.2.2.1 = View.canon (ktPieces (fun r x => x2 (r.idx x)) x4 (fun x => x3 ((Rect.unit (s := S12x128) (k0_off1 i) S1x128.size (k0_off1_inb i hc0)).idx x))) :=
  congrArg View.canon (keys_kt ..)

theorem kr_eq : View.canon (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11).2.2.2.2.1 = krT x4 :=
  (canon_last _ _ _ _ _ (by decide) rfl).trans (keys_kr ..)

theorem cs_eq : View.canon (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11).2.2.2.2.2.1 = csCol (fun x => x3 ((Rect.unit (s := S12x128) (k0_off1 i) S1x128.size (k0_off1_inb i hc0)).idx x)) :=
  (canon_last _ _ _ _ _ (by decide) rfl).trans (keys_cs ..)

theorem dc_eq : View.canon (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11).2.1 = dcAll (plain i x0 x1 x2 x5 x6 x7 x8 x9 x10 x11 (View.canon (ktPieces (fun r x => x2 (r.idx x)) x4 (fun x => x3 ((Rect.unit (s := S12x128) (k0_off1 i) S1x128.size (k0_off1_inb i hc0)).idx x)))) (krT x4) (csCol (fun x => x3 ((Rect.unit (s := S12x128) (k0_off1 i) S1x128.size (k0_off1_inb i hc0)).idx x)))) (fun _ => (0 : EReal)) := by
  rw [dc, blk_eq, zero_dc]
  rfl

theorem dkr_eq : View.canon (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11).2.2.2.2.2.2.1 = dkrAll (plain i x0 x1 x2 x5 x6 x7 x8 x9 x10 x11 (View.canon (ktPieces (fun r x => x2 (r.idx x)) x4 (fun x => x3 ((Rect.unit (s := S12x128) (k0_off1 i) S1x128.size (k0_off1_inb i hc0)).idx x)))) (krT x4) (csCol (fun x => x3 ((Rect.unit (s := S12x128) (k0_off1 i) S1x128.size (k0_off1_inb i hc0)).idx x)))) (fun _ => (0 : EReal)) := by
  rw [dkr, blk_eq, zero_dkr]
  rfl

theorem out12 : out0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 = View.canon (dqPieces (plain i x0 x1 x2 x5 x6 x7 x8 x9 x10 x11 (View.canon (ktPieces (fun r x => x2 (r.idx x)) x4 (fun x => x3 ((Rect.unit (s := S12x128) (k0_off1 i) S1x128.size (k0_off1_inb i hc0)).idx x)))) (krT x4) (csCol (fun x => x3 ((Rect.unit (s := S12x128) (k0_off1 i) S1x128.size (k0_off1_inb i hc0)).idx x))))) :=
  (View.read_writes_junk_eq_canon _ _).trans (dq_eq c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11)

theorem out13 : out0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 = dcAll (plain i x0 x1 x2 x5 x6 x7 x8 x9 x10 x11 (View.canon (ktPieces (fun r x => x2 (r.idx x)) x4 (fun x => x3 ((Rect.unit (s := S12x128) (k0_off1 i) S1x128.size (k0_off1_inb i hc0)).idx x)))) (krT x4) (csCol (fun x => x3 ((Rect.unit (s := S12x128) (k0_off1 i) S1x128.size (k0_off1_inb i hc0)).idx x)))) (fun _ => (0 : EReal)) :=
  (View.read_writes_junk_eq_canon _ _).trans (dc_eq c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11)

theorem left3 : sout0_A_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 = dkrAll (plain i x0 x1 x2 x5 x6 x7 x8 x9 x10 x11 (View.canon (ktPieces (fun r x => x2 (r.idx x)) x4 (fun x => x3 ((Rect.unit (s := S12x128) (k0_off1 i) S1x128.size (k0_off1_inb i hc0)).idx x)))) (krT x4) (csCol (fun x => x3 ((Rect.unit (s := S12x128) (k0_off1 i) S1x128.size (k0_off1_inb i hc0)).idx x)))) (fun _ => (0 : EReal)) :=
  (View.read_writes_junk_eq_canon _ _).trans (dkr_eq c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11)

theorem left0 : sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 = View.canon (ktPieces (fun r x => x2 (r.idx x)) x4 (fun x => x3 ((Rect.unit (s := S12x128) (k0_off1 i) S1x128.size (k0_off1_inb i hc0)).idx x))) :=
  (View.read_writes_junk_eq_canon _ _).trans (kt_eq c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11)

theorem left1 : sout0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 = krT x4 :=
  (View.read_writes_junk_eq_canon _ _).trans (kr_eq c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11)

theorem left2 : sout0_A_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 = csCol (fun x => x3 ((Rect.unit (s := S12x128) (k0_off1 i) S1x128.size (k0_off1_inb i hc0)).idx x)) :=
  (View.read_writes_junk_eq_canon _ _).trans (cs_eq c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11)

end Cert.KernelIdeal.CaseA

end
-- ==== Proof.RowsB.lean ====
/- The row sums of the body's run in case B: the same words as in case A. -/
module

public import proofs.«01_k».proof.Proof.Gen.KernelIdeal.Frame
public import proofs.«01_k».proof.Proof.RowsA

@[expose] public section

set_option maxRecDepth 16384

noncomputable section

open Idealize.ShloMosaic Idealize.ShloMosaic.TcCoe Idealize.SL.Sem

namespace Cert.KernelIdeal.RowsB

open Cert.KernelIdeal Cert.KernelIdeal.Gen Cert.KernelIdeal.Body

variable (c : Dev nD) (i : grid0.Coords)
  (arg7 : Memref sig .tc .vmem S1x128x8x512 .bf16) (harg7 : arg7.IsWhole)
  (arg9 : Memref sig .tc .vmem S1x128x8x128 .fp8e5m2) (harg9 : arg9.IsWhole)
  (arg10 : Memref sig .tc .vmem S1x128x8x128 .fp8e5m2) (harg10 : arg10.IsWhole)
  (arg11 : Memref sig .tc .vmem S1x128x8x128 .fp8e5m2) (harg11 : arg11.IsWhole)
  (arg12 : Memref sig .tc .vmem S1x128x8x128 .fp8e5m2) (harg12 : arg12.IsWhole)
  (arg13 : Memref sig .tc .vmem S12x128 .f32) (harg13 : arg13.IsWhole)
  (x5 : Vec Ideal S1x128x8x512 .bf16) (x7 x8 x9 x10 : Vec Ideal S1x128x8x128 .fp8e5m2) (x11 : Vec Ideal S12x128 .f32)

/-- The scaled row sums. -/
theorem delta_eq : kernelRun0_B.sl.r_16 c i arg7 harg7 arg9 harg9 arg10 harg10 arg11 harg11 arg12 harg12 arg13 harg13 x5 x7 x8 x9 x10 x11 =
    mulf (rowSums (rdo arg7 harg7 x5) (rdd arg9 harg9 x7) (rdd arg10 harg10 x8) (rdd arg11 harg11 x9) (rdd arg12 harg12 x10) 32 (by omega)) (broadcastTo S8x128 (kernelRun0_B.sl.r_15 c i arg13 harg13 x11) broadcasts_S1x128_S8x128) :=
  Eq.trans (b := kernelRun0_A.sl.r_16 c i arg7 harg7 arg9 harg9 arg10 harg10 arg11 harg11 arg12 harg12 arg13 harg13 x5 x7 x8 x9 x10 x11) rfl
    (RowsA.delta_eq c i arg7 harg7 arg9 harg9 arg10 harg10 arg11 harg11 arg12 harg12 arg13 harg13 x5 x7 x8 x9 x10 x11)

end Cert.KernelIdeal.RowsB

end
-- ==== Proof.CaseB.lean ====
/- The body's run in case B: what it leaves in the output blocks, in the regular form. -/
module

public import proofs.«01_k».proof.Proof.Gen.KernelIdeal.Frame
public import proofs.«01_k».proof.Proof.RowsB

@[expose] public section

set_option maxRecDepth 16384

noncomputable section

open Idealize.ShloMosaic Idealize.ShloMosaic.TcCoe Idealize.SL.Sem

namespace Cert.KernelIdeal.CaseB

open Cert.KernelIdeal Cert.KernelIdeal.Gen Cert.KernelIdeal.Body

variable (c : Dev nD) (i : grid0.Coords)
  (arg2 : Memref sig .tc .vmem S1x8x576x128 .fp8e4m3) (harg2 : arg2.IsWhole)
  (arg3 : Memref sig .tc .vmem S1x8x128 .f32) (harg3 : arg3.IsWhole)
  (arg4 : Memref sig .tc .vmem S1x128x512 .fp8e4m3) (harg4 : arg4.IsWhole)
  (arg5 : Memref sig .tc .vmem S12x128 .f32) (harg5 : arg5.IsWhole)
  (arg6 : Memref sig .tc .vmem S1x64x128 .bf16) (harg6 : arg6.IsWhole)
  (arg7 : Memref sig .tc .vmem S1x128x8x512 .bf16) (harg7 : arg7.IsWhole)
  (arg8 : Memref sig .tc .vmem S1x8x128 .f32) (harg8 : arg8.IsWhole)
  (arg9 : Memref sig .tc .vmem S1x128x8x128 .fp8e5m2) (harg9 : arg9.IsWhole)
  (arg10 : Memref sig .tc .vmem S1x128x8x128 .fp8e5m2) (harg10 : arg10.IsWhole)
  (arg11 : Memref sig .tc .vmem S1x128x8x128 .fp8e5m2) (harg11 : arg11.IsWhole)
  (arg12 : Memref sig .tc .vmem S1x128x8x128 .fp8e5m2) (harg12 : arg12.IsWhole)
  (arg13 : Memref sig .tc .vmem S12x128 .f32) (harg13 : arg13.IsWhole)
  (arg14 : Memref sig .tc .vmem S1x8x576x128 .bf16) (harg14 : arg14.IsWhole)
  (arg15 : Memref sig .tc .vmem S1x128x512 .f32) (harg15 : arg15.IsWhole)
  (arg16 : Memref sig .tc .vmem S1x64x128 .f32) (harg16 : arg16.IsWhole)
  (arg17 : Memref sig .tc .vmem S576x128 .bf16) (harg17 : arg17.IsWhole)
  (arg18 : Memref sig .tc .vmem S128x64 .bf16) (harg18 : arg18.IsWhole)
  (arg19 : Memref sig .tc .vmem S128x128 .f32) (harg19 : arg19.IsWhole)
  (arg20 : Memref sig .tc .vmem S128x64 .f32) (harg20 : arg20.IsWhole)
  (arg21 : Memref sig .tc .vmem S1024x512 .fp8e5m2) (harg21 : arg21.IsWhole)
  (hc0 : ¬cond0_0 i) (hc1 : ¬cond0_1 i)
  (x0 : Vec Ideal S1x8x576x128 .fp8e4m3)
  (x1 : Vec Ideal S1x8x128 .f32)
  (x2 : Vec Ideal S1x128x512 .fp8e4m3)
  (x3 : Vec Ideal S12x128 .f32)
  (x4 : Vec Ideal S1x64x128 .bf16)
  (x5 : Vec Ideal S1x128x8x512 .bf16)
  (x6 : Vec Ideal S1x8x128 .f32)
  (x7 : Vec Ideal S1x128x8x128 .fp8e5m2)
  (x8 : Vec Ideal S1x128x8x128 .fp8e5m2)
  (x9 : Vec Ideal S1x128x8x128 .fp8e5m2)
  (x10 : Vec Ideal S1x128x8x128 .fp8e5m2)
  (x11 : Vec Ideal S12x128 .f32)
  (xo13 : Vec Ideal S1x128x512 .f32) (xs0 : Vec Ideal S576x128 .bf16) (xs1 : Vec Ideal S128x64 .bf16) (xs2 : Vec Ideal S128x128 .f32) (xs3 : Vec Ideal S128x64 .f32)

/-- What the heads' part of the body reads. -/
abbrev blk : Blk :=
  ⟨rdq arg2 harg2 x0,
    View.readAt (Elt Ideal) arg3.view (Rect.unit (s := S1x8x128) ![0, 0, 0] S1x8x128.size (by decide)).toLoadRect (harg3.unread x1),
    View.readAt (Elt Ideal) arg4.view (Rect.unit (s := S1x128x512) ![0, 0, 0] S1x128x512.size (by decide)).toLoadRect (harg4.unread x2),
    View.readAt (Elt Ideal) arg8.view (Rect.unit (s := S1x8x128) ![0, 0, 0] S1x8x128.size (by decide)).toLoadRect (harg8.unread x6),
    fun r => arg21.view.readCov (Val := Elt Ideal) (kernelRun0_B.sl.HS4_32 c arg9 harg9 arg10 harg10 arg11 harg11 arg12 harg12 x7 x8 x9 x10) r.toLoadRect,
    (kernelRun0_B.sl.r_16 c i arg7 harg7 arg9 harg9 arg10 harg10 arg11 harg11 arg12 harg12 arg13 harg13 x5 x7 x8 x9 x10 x11),
    (kernelRun0_B.sl.r_14 c i arg13 harg13 x11),
    View.readAt (Elt Ideal) arg17.view (Rect.unit (s := S576x128) ![0, 0] S576x128.size (by decide)).toLoadRect (harg17.unread xs0),
    View.readAt (Elt Ideal) arg18.view (Rect.unit (s := S128x64) ![0, 0] S128x64.size (by decide)).toLoadRect (harg18.unread xs1),
    View.readAt (Elt Ideal) arg19.view (Rect.unit (s := S128x128) ![0, 0] S128x128.size (by decide)).toLoadRect (harg19.unread xs2)⟩

/-- The gradient scratch array's pieces. -/
theorem pieces_eq : kernelRun0_B.sl.HS4_32 c arg9 harg9 arg10 harg10 arg11 harg11 arg12 harg12 x7 x8 x9 x10 = pieces (rdd arg9 harg9 x7) (rdd arg10 harg10 x8) (rdd arg11 harg11 x9) (rdd arg12 harg12 x10) := rfl

/-- The reads, in terms of the blocks. -/
theorem blk_eq : (blk c i arg2 harg2 arg3 harg3 arg4 harg4 arg7 harg7 arg8 harg8 arg9 harg9 arg10 harg10 arg11 harg11 arg12 harg12 arg13 harg13 arg17 harg17 arg18 harg18 arg19 harg19 arg21 x0 x1 x2 x5 x6 x7 x8 x9 x10 x11 xs0 xs1 xs2) = plain i x0 x1 x2 x5 x6 x7 x8 x9 x10 x11 xs0 xs1 xs2 := by
  have e0 : rdq arg2 harg2 x0 = fun r x => x0 (r.idx x) := funext fun r => readAt_part arg2 harg2 x0 r
  have e5 : rdo arg7 harg7 x5 = fun r x => x5 (r.idx x) := funext fun r => readAt_part arg7 harg7 x5 r
  have e7 : rdd arg9 harg9 x7 = fun r x => x7 (r.idx x) := funext fun r => readAt_part arg9 harg9 x7 r
  have e8 : rdd arg10 harg10 x8 = fun r x => x8 (r.idx x) := funext fun r => readAt_part arg10 harg10 x8 r
  have e9 : rdd arg11 harg11 x9 = fun r x => x9 (r.idx x) := funext fun r => readAt_part arg11 harg11 x9 r
  have e10 : rdd arg12 harg12 x10 = fun r x => x10 (r.idx x) := funext fun r => readAt_part arg12 harg12 x10 r
  have e14 : kernelRun0_B.sl.r_14 c i arg13 harg13 x11 = fun x => x11 ((Rect.unit (s := S12x128) (k0_off2 i) S1x128.size (k0_off2_inb i)).idx x) :=
    readAt_part arg13 harg13 x11 _
  have e15 : kernelRun0_B.sl.r_15 c i arg13 harg13 x11 = k0_pay202 (fun x => x11 ((Rect.unit (s := S12x128) (k0_off2 i) S1x128.size (k0_off2_inb i)).idx x)) :=
    congrArg k0_pay202 e14
  unfold blk plain
  rw [RowsB.delta_eq, pieces_eq, e0, e5, e7, e8, e9, e10, e14, e15, readAt_whole arg3 harg3 x1 _ _ (by decide),
    readAt_whole arg4 harg4 x2 _ _ (by decide), readAt_whole arg8 harg8 x6 _ _ (by decide)]
  rw [readAt_whole arg17 harg17 xs0 _ _ (by decide), readAt_whole arg18 harg18 xs1 _ _ (by decide), readAt_whole arg19 harg19 xs2 _ _ (by decide)]
  simp only [View.readCov_eq_canon']
  rfl

theorem dc : View.canon (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xo13 xs0 xs1 xs2 xs3).2.1 = dcAll (blk c i arg2 harg2 arg3 harg3 arg4 harg4 arg7 harg7 arg8 harg8 arg9 harg9 arg10 harg10 arg11 harg11 arg12 harg12 arg13 harg13 arg17 harg17 arg18 harg18 arg19 harg19 arg21 x0 x1 x2 x5 x6 x7 x8 x9 x10 x11 xs0 xs1 xs2)
    (View.readAt (Elt Ideal) arg15.view (Rect.unit (s := S1x128x512) ![0, 0, 0] S1x128x512.size (by decide)).toLoadRect (harg15.unread xo13)) := by
  refine (canon_last _ _ _ _ _ (by decide) rfl).trans ?_
  refine (Eq.trans (b := dcStep (blk c i arg2 harg2 arg3 harg3 arg4 harg4 arg7 harg7 arg8 harg8 arg9 harg9 arg10 harg10 arg11 harg11 arg12 harg12 arg13 harg13 arg17 harg17 arg18 harg18 arg19 harg19 arg21 x0 x1 x2 x5 x6 x7 x8 x9 x10 x11 xs0 xs1 xs2) 6 (by omega) (kernelRun0_B.sl.v2758 c i arg2 harg2 arg3 harg3 arg4 harg4 arg7 harg7 arg8 harg8 arg9 harg9 arg10 harg10 arg11 harg11 arg12 harg12 arg13 harg13 arg15 harg15 arg18 harg18 arg19 harg19 arg21 x0 x1 x2 x5 x6 x7 x8 x9 x10 x11 xo13 xs1 xs2)) (by dsimp only [dcStep, dkrStep, dqPieces, dqLo, dqHi, Dq, Dsq, Pdo, Ds, P, qNope, qRope, doPair, dosS, qs, rowPair]; exact rfl) rfl).trans (congrArg (dcStep _ 6 _) ?_)
  unfold kernelRun0_B.sl.v2758
  refine (readCov_last _ _ _ _ _ _ _ _ (by decide) (by decide) rfl).trans ?_
  refine Eq.trans (b := dcStep (blk c i arg2 harg2 arg3 harg3 arg4 harg4 arg7 harg7 arg8 harg8 arg9 harg9 arg10 harg10 arg11 harg11 arg12 harg12 arg13 harg13 arg17 harg17 arg18 harg18 arg19 harg19 arg21 x0 x1 x2 x5 x6 x7 x8 x9 x10 x11 xs0 xs1 xs2) 4 (by omega) (kernelRun0_B.sl.v2680 c i arg2 harg2 arg3 harg3 arg4 harg4 arg7 harg7 arg8 harg8 arg9 harg9 arg10 harg10 arg11 harg11 arg12 harg12 arg13 harg13 arg15 harg15 arg18 harg18 arg19 harg19 arg21 x0 x1 x2 x5 x6 x7 x8 x9 x10 x11 xo13 xs1 xs2)) (by dsimp only [dcStep, dkrStep, dqPieces, dqLo, dqHi, Dq, Dsq, Pdo, Ds, P, qNope, qRope, doPair, dosS, qs, rowPair]; exact rfl) (congrArg (dcStep _ 4 _) ?_)
  unfold kernelRun0_B.sl.v2680
  refine (readCov_last _ _ _ _ _ _ _ _ (by decide) (by decide) rfl).trans ?_
  refine Eq.trans (b := dcStep (blk c i arg2 harg2 arg3 harg3 arg4 harg4 arg7 harg7 arg8 harg8 arg9 harg9 arg10 harg10 arg11 harg11 arg12 harg12 arg13 harg13 arg17 harg17 arg18 harg18 arg19 harg19 arg21 x0 x1 x2 x5 x6 x7 x8 x9 x10 x11 xs0 xs1 xs2) 2 (by omega) (kernelRun0_B.sl.v2602 c i arg2 harg2 arg3 harg3 arg4 harg4 arg7 harg7 arg8 harg8 arg9 harg9 arg10 harg10 arg11 harg11 arg12 harg12 arg13 harg13 arg15 harg15 arg18 harg18 arg19 harg19 arg21 x0 x1 x2 x5 x6 x7 x8 x9 x10 x11 xo13 xs1 xs2)) (by dsimp only [dcStep, dkrStep, dqPieces, dqLo, dqHi, Dq, Dsq, Pdo, Ds, P, qNope, qRope, doPair, dosS, qs, rowPair]; exact rfl) (congrArg (dcStep _ 2 _) ?_)
  unfold kernelRun0_B.sl.v2602
  refine (readCov_last _ _ _ _ _ _ _ _ (by decide) (by decide) rfl).trans ?_
  refine Eq.trans (b := dcStep (blk c i arg2 harg2 arg3 harg3 arg4 harg4 arg7 harg7 arg8 harg8 arg9 harg9 arg10 harg10 arg11 harg11 arg12 harg12 arg13 harg13 arg17 harg17 arg18 harg18 arg19 harg19 arg21 x0 x1 x2 x5 x6 x7 x8 x9 x10 x11 xs0 xs1 xs2) 0 (by omega) (View.readAt (Elt Ideal) arg15.view (Rect.unit (s := S1x128x512) ![0, 0, 0] S1x128x512.size (by decide)).toLoadRect (harg15.unread xo13))) (by dsimp only [dcStep, dkrStep, dqPieces, dqLo, dqHi, Dq, Dsq, Pdo, Ds, P, qNope, qRope, doPair, dosS, qs, rowPair]; exact rfl) rfl

theorem dkr : View.canon (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xo13 xs0 xs1 xs2 xs3).2.2.2.2.2.2.1 = dkrAll (blk c i arg2 harg2 arg3 harg3 arg4 harg4 arg7 harg7 arg8 harg8 arg9 harg9 arg10 harg10 arg11 harg11 arg12 harg12 arg13 harg13 arg17 harg17 arg18 harg18 arg19 harg19 arg21 x0 x1 x2 x5 x6 x7 x8 x9 x10 x11 xs0 xs1 xs2)
    (View.readAt (Elt Ideal) arg20.view (Rect.unit (s := S128x64) ![0, 0] S128x64.size (by decide)).toLoadRect (harg20.unread xs3)) := by
  refine (canon_last _ _ _ _ _ (by decide) rfl).trans ?_
  refine Eq.trans (b := dkrStep (blk c i arg2 harg2 arg3 harg3 arg4 harg4 arg7 harg7 arg8 harg8 arg9 harg9 arg10 harg10 arg11 harg11 arg12 harg12 arg13 harg13 arg17 harg17 arg18 harg18 arg19 harg19 arg21 x0 x1 x2 x5 x6 x7 x8 x9 x10 x11 xs0 xs1 xs2) 6 (by omega) (kernelRun0_B.sl.v2767 c i arg2 harg2 arg3 harg3 arg4 harg4 arg7 harg7 arg8 harg8 arg9 harg9 arg10 harg10 arg11 harg11 arg12 harg12 arg13 harg13 arg18 harg18 arg19 harg19 arg20 harg20 arg21 x0 x1 x2 x5 x6 x7 x8 x9 x10 x11 xs1 xs2 xs3)) (by dsimp only [dcStep, dkrStep, dqPieces, dqLo, dqHi, Dq, Dsq, Pdo, Ds, P, qNope, qRope, doPair, dosS, qs, rowPair]; exact rfl) (congrArg (dkrStep _ 6 _) ?_)
  unfold kernelRun0_B.sl.v2767
  refine (readCov_last _ _ _ _ _ _ _ _ (by decide) (by decide) rfl).trans ?_
  refine Eq.trans (b := dkrStep (blk c i arg2 harg2 arg3 harg3 arg4 harg4 arg7 harg7 arg8 harg8 arg9 harg9 arg10 harg10 arg11 harg11 arg12 harg12 arg13 harg13 arg17 harg17 arg18 harg18 arg19 harg19 arg21 x0 x1 x2 x5 x6 x7 x8 x9 x10 x11 xs0 xs1 xs2) 4 (by omega) (kernelRun0_B.sl.v2689 c i arg2 harg2 arg3 harg3 arg4 harg4 arg7 harg7 arg8 harg8 arg9 harg9 arg10 harg10 arg11 harg11 arg12 harg12 arg13 harg13 arg18 harg18 arg19 harg19 arg20 harg20 arg21 x0 x1 x2 x5 x6 x7 x8 x9 x10 x11 xs1 xs2 xs3)) (by dsimp only [dcStep, dkrStep, dqPieces, dqLo, dqHi, Dq, Dsq, Pdo, Ds, P, qNope, qRope, doPair, dosS, qs, rowPair]; exact rfl) (congrArg (dkrStep _ 4 _) ?_)
  unfold kernelRun0_B.sl.v2689
  refine (readCov_last _ _ _ _ _ _ _ _ (by decide) (by decide) rfl).trans ?_
  refine Eq.trans (b := dkrStep (blk c i arg2 harg2 arg3 harg3 arg4 harg4 arg7 harg7 arg8 harg8 arg9 harg9 arg10 harg10 arg11 harg11 arg12 harg12 arg13 harg13 arg17 harg17 arg18 harg18 arg19 harg19 arg21 x0 x1 x2 x5 x6 x7 x8 x9 x10 x11 xs0 xs1 xs2) 2 (by omega) (kernelRun0_B.sl.v2611 c i arg2 harg2 arg3 harg3 arg4 harg4 arg7 harg7 arg8 harg8 arg9 harg9 arg10 harg10 arg11 harg11 arg12 harg12 arg13 harg13 arg18 harg18 arg19 harg19 arg20 harg20 arg21 x0 x1 x2 x5 x6 x7 x8 x9 x10 x11 xs1 xs2 xs3)) (by dsimp only [dcStep, dkrStep, dqPieces, dqLo, dqHi, Dq, Dsq, Pdo, Ds, P, qNope, qRope, doPair, dosS, qs, rowPair]; exact rfl) (congrArg (dkrStep _ 2 _) ?_)
  unfold kernelRun0_B.sl.v2611
  refine (readCov_last _ _ _ _ _ _ _ _ (by decide) (by decide) rfl).trans ?_
  refine Eq.trans (b := dkrStep (blk c i arg2 harg2 arg3 harg3 arg4 harg4 arg7 harg7 arg8 harg8 arg9 harg9 arg10 harg10 arg11 harg11 arg12 harg12 arg13 harg13 arg17 harg17 arg18 harg18 arg19 harg19 arg21 x0 x1 x2 x5 x6 x7 x8 x9 x10 x11 xs0 xs1 xs2) 0 (by omega) (View.readAt (Elt Ideal) arg20.view (Rect.unit (s := S128x64) ![0, 0] S128x64.size (by decide)).toLoadRect (harg20.unread xs3))) (by dsimp only [dcStep, dkrStep, dqPieces, dqLo, dqHi, Dq, Dsq, Pdo, Ds, P, qNope, qRope, doPair, dosS, qs, rowPair]; exact rfl) rfl

theorem dq : (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xo13 xs0 xs1 xs2 xs3).1 = dqPieces (blk c i arg2 harg2 arg3 harg3 arg4 harg4 arg7 harg7 arg8 harg8 arg9 harg9 arg10 harg10 arg11 harg11 arg12 harg12 arg13 harg13 arg17 harg17 arg18 harg18 arg19 harg19 arg21 x0 x1 x2 x5 x6 x7 x8 x9 x10 x11 xs0 xs1 xs2) := (by dsimp only [dcStep, dkrStep, dqPieces, dqLo, dqHi, Dq, Dsq, Pdo, Ds, P, qNope, qRope, doPair, dosS, qs, rowPair]; exact rfl)

/-! ## The results in terms of the blocks -/

theorem dq_eq : View.canon (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xo13 xs0 xs1 xs2 xs3).1 = View.canon (dqPieces (plain i x0 x1 x2 x5 x6 x7 x8 x9 x10 x11 xs0 xs1 xs2)) :=
  congrArg View.canon ((dq ..).trans (congrArg dqPieces (blk_eq ..)))

theorem dc_eq : View.canon (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xo13 xs0 xs1 xs2 xs3).2.1 = dcAll (plain i x0 x1 x2 x5 x6 x7 x8 x9 x10 x11 xs0 xs1 xs2) xo13 := by
  rw [dc, blk_eq, readAt_whole arg15 harg15 xo13 _ _ (by decide)]

theorem dkr_eq : View.canon (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xo13 xs0 xs1 xs2 xs3).2.2.2.2.2.2.1 = dkrAll (plain i x0 x1 x2 x5 x6 x7 x8 x9 x10 x11 xs0 xs1 xs2) xs3 := by
  rw [dkr, blk_eq, readAt_whole arg20 harg20 xs3 _ _ (by decide)]

theorem out12 : out0_B_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xo13 xs0 xs1 xs2 xs3 = View.canon (dqPieces (plain i x0 x1 x2 x5 x6 x7 x8 x9 x10 x11 xs0 xs1 xs2)) :=
  (View.read_writes_junk_eq_canon _ _).trans (dq_eq c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xo13 xs0 xs1 xs2 xs3)

theorem out13 : out0_B_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xo13 xs0 xs1 xs2 xs3 = dcAll (plain i x0 x1 x2 x5 x6 x7 x8 x9 x10 x11 xs0 xs1 xs2) xo13 :=
  (View.read_writes_junk_eq_canon _ _).trans (dc_eq c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xo13 xs0 xs1 xs2 xs3)

theorem left3 : sout0_B_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xo13 xs0 xs1 xs2 xs3 = dkrAll (plain i x0 x1 x2 x5 x6 x7 x8 x9 x10 x11 xs0 xs1 xs2) xs3 :=
  (View.read_writes_junk_eq_canon _ _).trans (dkr_eq c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xo13 xs0 xs1 xs2 xs3)

end Cert.KernelIdeal.CaseB

end
-- ==== Proof.RowsC.lean ====
/- The row sums of the body's run in case C: the same words as in case A. -/
module

public import proofs.«01_k».proof.Proof.Gen.KernelIdeal.Frame
public import proofs.«01_k».proof.Proof.RowsA

@[expose] public section

set_option maxRecDepth 16384

noncomputable section

open Idealize.ShloMosaic Idealize.ShloMosaic.TcCoe Idealize.SL.Sem

namespace Cert.KernelIdeal.RowsC

open Cert.KernelIdeal Cert.KernelIdeal.Gen Cert.KernelIdeal.Body

variable (c : Dev nD) (i : grid0.Coords)
  (arg7 : Memref sig .tc .vmem S1x128x8x512 .bf16) (harg7 : arg7.IsWhole)
  (arg9 : Memref sig .tc .vmem S1x128x8x128 .fp8e5m2) (harg9 : arg9.IsWhole)
  (arg10 : Memref sig .tc .vmem S1x128x8x128 .fp8e5m2) (harg10 : arg10.IsWhole)
  (arg11 : Memref sig .tc .vmem S1x128x8x128 .fp8e5m2) (harg11 : arg11.IsWhole)
  (arg12 : Memref sig .tc .vmem S1x128x8x128 .fp8e5m2) (harg12 : arg12.IsWhole)
  (arg13 : Memref sig .tc .vmem S12x128 .f32) (harg13 : arg13.IsWhole)
  (x5 : Vec Ideal S1x128x8x512 .bf16) (x7 x8 x9 x10 : Vec Ideal S1x128x8x128 .fp8e5m2) (x11 : Vec Ideal S12x128 .f32)

/-- The scaled row sums. -/
theorem delta_eq : kernelRun0_C.sl.r_16 c i arg7 harg7 arg9 harg9 arg10 harg10 arg11 harg11 arg12 harg12 arg13 harg13 x5 x7 x8 x9 x10 x11 =
    mulf (rowSums (rdo arg7 harg7 x5) (rdd arg9 harg9 x7) (rdd arg10 harg10 x8) (rdd arg11 harg11 x9) (rdd arg12 harg12 x10) 32 (by omega)) (broadcastTo S8x128 (kernelRun0_C.sl.r_15 c i arg13 harg13 x11) broadcasts_S1x128_S8x128) :=
  Eq.trans (b := kernelRun0_A.sl.r_16 c i arg7 harg7 arg9 harg9 arg10 harg10 arg11 harg11 arg12 harg12 arg13 harg13 x5 x7 x8 x9 x10 x11) rfl
    (RowsA.delta_eq c i arg7 harg7 arg9 harg9 arg10 harg10 arg11 harg11 arg12 harg12 arg13 harg13 x5 x7 x8 x9 x10 x11)

end Cert.KernelIdeal.RowsC

end
-- ==== Proof.CaseC.lean ====
/- The body's run in case C: what it leaves in the output blocks, in the regular form. -/
module

public import proofs.«01_k».proof.Proof.Gen.KernelIdeal.Frame
public import proofs.«01_k».proof.Proof.RowsC

@[expose] public section

set_option maxRecDepth 16384

noncomputable section

open Idealize.ShloMosaic Idealize.ShloMosaic.TcCoe Idealize.SL.Sem

namespace Cert.KernelIdeal.CaseC

open Cert.KernelIdeal Cert.KernelIdeal.Gen Cert.KernelIdeal.Body

variable (c : Dev nD) (i : grid0.Coords)
  (arg2 : Memref sig .tc .vmem S1x8x576x128 .fp8e4m3) (harg2 : arg2.IsWhole)
  (arg3 : Memref sig .tc .vmem S1x8x128 .f32) (harg3 : arg3.IsWhole)
  (arg4 : Memref sig .tc .vmem S1x128x512 .fp8e4m3) (harg4 : arg4.IsWhole)
  (arg5 : Memref sig .tc .vmem S12x128 .f32) (harg5 : arg5.IsWhole)
  (arg6 : Memref sig .tc .vmem S1x64x128 .bf16) (harg6 : arg6.IsWhole)
  (arg7 : Memref sig .tc .vmem S1x128x8x512 .bf16) (harg7 : arg7.IsWhole)
  (arg8 : Memref sig .tc .vmem S1x8x128 .f32) (harg8 : arg8.IsWhole)
  (arg9 : Memref sig .tc .vmem S1x128x8x128 .fp8e5m2) (harg9 : arg9.IsWhole)
  (arg10 : Memref sig .tc .vmem S1x128x8x128 .fp8e5m2) (harg10 : arg10.IsWhole)
  (arg11 : Memref sig .tc .vmem S1x128x8x128 .fp8e5m2) (harg11 : arg11.IsWhole)
  (arg12 : Memref sig .tc .vmem S1x128x8x128 .fp8e5m2) (harg12 : arg12.IsWhole)
  (arg13 : Memref sig .tc .vmem S12x128 .f32) (harg13 : arg13.IsWhole)
  (arg14 : Memref sig .tc .vmem S1x8x576x128 .bf16) (harg14 : arg14.IsWhole)
  (arg15 : Memref sig .tc .vmem S1x128x512 .f32) (harg15 : arg15.IsWhole)
  (arg16 : Memref sig .tc .vmem S1x64x128 .f32) (harg16 : arg16.IsWhole)
  (arg17 : Memref sig .tc .vmem S576x128 .bf16) (harg17 : arg17.IsWhole)
  (arg18 : Memref sig .tc .vmem S128x64 .bf16) (harg18 : arg18.IsWhole)
  (arg19 : Memref sig .tc .vmem S128x128 .f32) (harg19 : arg19.IsWhole)
  (arg20 : Memref sig .tc .vmem S128x64 .f32) (harg20 : arg20.IsWhole)
  (arg21 : Memref sig .tc .vmem S1024x512 .fp8e5m2) (harg21 : arg21.IsWhole)
  (hc0 : ¬cond0_0 i) (hc1 : cond0_1 i)
  (x0 : Vec Ideal S1x8x576x128 .fp8e4m3)
  (x1 : Vec Ideal S1x8x128 .f32)
  (x2 : Vec Ideal S1x128x512 .fp8e4m3)
  (x3 : Vec Ideal S12x128 .f32)
  (x4 : Vec Ideal S1x64x128 .bf16)
  (x5 : Vec Ideal S1x128x8x512 .bf16)
  (x6 : Vec Ideal S1x8x128 .f32)
  (x7 : Vec Ideal S1x128x8x128 .fp8e5m2)
  (x8 : Vec Ideal S1x128x8x128 .fp8e5m2)
  (x9 : Vec Ideal S1x128x8x128 .fp8e5m2)
  (x10 : Vec Ideal S1x128x8x128 .fp8e5m2)
  (x11 : Vec Ideal S12x128 .f32)
  (xo13 : Vec Ideal S1x128x512 .f32) (xs0 : Vec Ideal S576x128 .bf16) (xs1 : Vec Ideal S128x64 .bf16) (xs2 : Vec Ideal S128x128 .f32) (xs3 : Vec Ideal S128x64 .f32)

/-- What the heads' part of the body reads. -/
abbrev blk : Blk :=
  ⟨rdq arg2 harg2 x0,
    View.readAt (Elt Ideal) arg3.view (Rect.unit (s := S1x8x128) ![0, 0, 0] S1x8x128.size (by decide)).toLoadRect (harg3.unread x1),
    View.readAt (Elt Ideal) arg4.view (Rect.unit (s := S1x128x512) ![0, 0, 0] S1x128x512.size (by decide)).toLoadRect (harg4.unread x2),
    View.readAt (Elt Ideal) arg8.view (Rect.unit (s := S1x8x128) ![0, 0, 0] S1x8x128.size (by decide)).toLoadRect (harg8.unread x6),
    fun r => arg21.view.readCov (Val := Elt Ideal) (kernelRun0_C.sl.HS4_32 c arg9 harg9 arg10 harg10 arg11 harg11 arg12 harg12 x7 x8 x9 x10) r.toLoadRect,
    (kernelRun0_C.sl.r_16 c i arg7 harg7 arg9 harg9 arg10 harg10 arg11 harg11 arg12 harg12 arg13 harg13 x5 x7 x8 x9 x10 x11),
    (kernelRun0_C.sl.r_14 c i arg13 harg13 x11),
    View.readAt (Elt Ideal) arg17.view (Rect.unit (s := S576x128) ![0, 0] S576x128.size (by decide)).toLoadRect (harg17.unread xs0),
    View.readAt (Elt Ideal) arg18.view (Rect.unit (s := S128x64) ![0, 0] S128x64.size (by decide)).toLoadRect (harg18.unread xs1),
    View.readAt (Elt Ideal) arg19.view (Rect.unit (s := S128x128) ![0, 0] S128x128.size (by decide)).toLoadRect (harg19.unread xs2)⟩

/-- The gradient scratch array's pieces. -/
theorem pieces_eq : kernelRun0_C.sl.HS4_32 c arg9 harg9 arg10 harg10 arg11 harg11 arg12 harg12 x7 x8 x9 x10 = pieces (rdd arg9 harg9 x7) (rdd arg10 harg10 x8) (rdd arg11 harg11 x9) (rdd arg12 harg12 x10) := rfl

/-- The reads, in terms of the blocks. -/
theorem blk_eq : (blk c i arg2 harg2 arg3 harg3 arg4 harg4 arg7 harg7 arg8 harg8 arg9 harg9 arg10 harg10 arg11 harg11 arg12 harg12 arg13 harg13 arg17 harg17 arg18 harg18 arg19 harg19 arg21 x0 x1 x2 x5 x6 x7 x8 x9 x10 x11 xs0 xs1 xs2) = plain i x0 x1 x2 x5 x6 x7 x8 x9 x10 x11 xs0 xs1 xs2 := by
  have e0 : rdq arg2 harg2 x0 = fun r x => x0 (r.idx x) := funext fun r => readAt_part arg2 harg2 x0 r
  have e5 : rdo arg7 harg7 x5 = fun r x => x5 (r.idx x) := funext fun r => readAt_part arg7 harg7 x5 r
  have e7 : rdd arg9 harg9 x7 = fun r x => x7 (r.idx x) := funext fun r => readAt_part arg9 harg9 x7 r
  have e8 : rdd arg10 harg10 x8 = fun r x => x8 (r.idx x) := funext fun r => readAt_part arg10 harg10 x8 r
  have e9 : rdd arg11 harg11 x9 = fun r x => x9 (r.idx x) := funext fun r => readAt_part arg11 harg11 x9 r
  have e10 : rdd arg12 harg12 x10 = fun r x => x10 (r.idx x) := funext fun r => readAt_part arg12 harg12 x10 r
  have e14 : kernelRun0_C.sl.r_14 c i arg13 harg13 x11 = fun x => x11 ((Rect.unit (s := S12x128) (k0_off2 i) S1x128.size (k0_off2_inb i)).idx x) :=
    readAt_part arg13 harg13 x11 _
  have e15 : kernelRun0_C.sl.r_15 c i arg13 harg13 x11 = k0_pay202 (fun x => x11 ((Rect.unit (s := S12x128) (k0_off2 i) S1x128.size (k0_off2_inb i)).idx x)) :=
    congrArg k0_pay202 e14
  unfold blk plain
  rw [RowsC.delta_eq, pieces_eq, e0, e5, e7, e8, e9, e10, e14, e15, readAt_whole arg3 harg3 x1 _ _ (by decide),
    readAt_whole arg4 harg4 x2 _ _ (by decide), readAt_whole arg8 harg8 x6 _ _ (by decide)]
  rw [readAt_whole arg17 harg17 xs0 _ _ (by decide), readAt_whole arg18 harg18 xs1 _ _ (by decide), readAt_whole arg19 harg19 xs2 _ _ (by decide)]
  simp only [View.readCov_eq_canon']
  rfl

theorem dc : View.canon (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xo13 xs0 xs1 xs2 xs3).2.1 = dcAll (blk c i arg2 harg2 arg3 harg3 arg4 harg4 arg7 harg7 arg8 harg8 arg9 harg9 arg10 harg10 arg11 harg11 arg12 harg12 arg13 harg13 arg17 harg17 arg18 harg18 arg19 harg19 arg21 x0 x1 x2 x5 x6 x7 x8 x9 x10 x11 xs0 xs1 xs2)
    (View.readAt (Elt Ideal) arg15.view (Rect.unit (s := S1x128x512) ![0, 0, 0] S1x128x512.size (by decide)).toLoadRect (harg15.unread xo13)) := by
  refine (canon_last _ _ _ _ _ (by decide) rfl).trans ?_
  refine (Eq.trans (b := dcStep (blk c i arg2 harg2 arg3 harg3 arg4 harg4 arg7 harg7 arg8 harg8 arg9 harg9 arg10 harg10 arg11 harg11 arg12 harg12 arg13 harg13 arg17 harg17 arg18 harg18 arg19 harg19 arg21 x0 x1 x2 x5 x6 x7 x8 x9 x10 x11 xs0 xs1 xs2) 6 (by omega) (kernelRun0_C.sl.v2758 c i arg2 harg2 arg3 harg3 arg4 harg4 arg7 harg7 arg8 harg8 arg9 harg9 arg10 harg10 arg11 harg11 arg12 harg12 arg13 harg13 arg15 harg15 arg18 harg18 arg19 harg19 arg21 x0 x1 x2 x5 x6 x7 x8 x9 x10 x11 xo13 xs1 xs2)) (by dsimp only [dcStep, dkrStep, dqPieces, dqLo, dqHi, Dq, Dsq, Pdo, Ds, P, qNope, qRope, doPair, dosS, qs, rowPair]; exact rfl) rfl).trans (congrArg (dcStep _ 6 _) ?_)
  unfold kernelRun0_C.sl.v2758
  refine (readCov_last _ _ _ _ _ _ _ _ (by decide) (by decide) rfl).trans ?_
  refine Eq.trans (b := dcStep (blk c i arg2 harg2 arg3 harg3 arg4 harg4 arg7 harg7 arg8 harg8 arg9 harg9 arg10 harg10 arg11 harg11 arg12 harg12 arg13 harg13 arg17 harg17 arg18 harg18 arg19 harg19 arg21 x0 x1 x2 x5 x6 x7 x8 x9 x10 x11 xs0 xs1 xs2) 4 (by omega) (kernelRun0_C.sl.v2680 c i arg2 harg2 arg3 harg3 arg4 harg4 arg7 harg7 arg8 harg8 arg9 harg9 arg10 harg10 arg11 harg11 arg12 harg12 arg13 harg13 arg15 harg15 arg18 harg18 arg19 harg19 arg21 x0 x1 x2 x5 x6 x7 x8 x9 x10 x11 xo13 xs1 xs2)) (by dsimp only [dcStep, dkrStep, dqPieces, dqLo, dqHi, Dq, Dsq, Pdo, Ds, P, qNope, qRope, doPair, dosS, qs, rowPair]; exact rfl) (congrArg (dcStep _ 4 _) ?_)
  unfold kernelRun0_C.sl.v2680
  refine (readCov_last _ _ _ _ _ _ _ _ (by decide) (by decide) rfl).trans ?_
  refine Eq.trans (b := dcStep (blk c i arg2 harg2 arg3 harg3 arg4 harg4 arg7 harg7 arg8 harg8 arg9 harg9 arg10 harg10 arg11 harg11 arg12 harg12 arg13 harg13 arg17 harg17 arg18 harg18 arg19 harg19 arg21 x0 x1 x2 x5 x6 x7 x8 x9 x10 x11 xs0 xs1 xs2) 2 (by omega) (kernelRun0_C.sl.v2602 c i arg2 harg2 arg3 harg3 arg4 harg4 arg7 harg7 arg8 harg8 arg9 harg9 arg10 harg10 arg11 harg11 arg12 harg12 arg13 harg13 arg15 harg15 arg18 harg18 arg19 harg19 arg21 x0 x1 x2 x5 x6 x7 x8 x9 x10 x11 xo13 xs1 xs2)) (by dsimp only [dcStep, dkrStep, dqPieces, dqLo, dqHi, Dq, Dsq, Pdo, Ds, P, qNope, qRope, doPair, dosS, qs, rowPair]; exact rfl) (congrArg (dcStep _ 2 _) ?_)
  unfold kernelRun0_C.sl.v2602
  refine (readCov_last _ _ _ _ _ _ _ _ (by decide) (by decide) rfl).trans ?_
  refine Eq.trans (b := dcStep (blk c i arg2 harg2 arg3 harg3 arg4 harg4 arg7 harg7 arg8 harg8 arg9 harg9 arg10 harg10 arg11 harg11 arg12 harg12 arg13 harg13 arg17 harg17 arg18 harg18 arg19 harg19 arg21 x0 x1 x2 x5 x6 x7 x8 x9 x10 x11 xs0 xs1 xs2) 0 (by omega) (View.readAt (Elt Ideal) arg15.view (Rect.unit (s := S1x128x512) ![0, 0, 0] S1x128x512.size (by decide)).toLoadRect (harg15.unread xo13))) (by dsimp only [dcStep, dkrStep, dqPieces, dqLo, dqHi, Dq, Dsq, Pdo, Ds, P, qNope, qRope, doPair, dosS, qs, rowPair]; exact rfl) rfl

theorem dkr : View.canon (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xo13 xs0 xs1 xs2 xs3).2.2.2.2.2.2.1 = dkrAll (blk c i arg2 harg2 arg3 harg3 arg4 harg4 arg7 harg7 arg8 harg8 arg9 harg9 arg10 harg10 arg11 harg11 arg12 harg12 arg13 harg13 arg17 harg17 arg18 harg18 arg19 harg19 arg21 x0 x1 x2 x5 x6 x7 x8 x9 x10 x11 xs0 xs1 xs2)
    (View.readAt (Elt Ideal) arg20.view (Rect.unit (s := S128x64) ![0, 0] S128x64.size (by decide)).toLoadRect (harg20.unread xs3)) := by
  refine (canon_last _ _ _ _ _ (by decide) rfl).trans ?_
  refine Eq.trans (b := dkrStep (blk c i arg2 harg2 arg3 harg3 arg4 harg4 arg7 harg7 arg8 harg8 arg9 harg9 arg10 harg10 arg11 harg11 arg12 harg12 arg13 harg13 arg17 harg17 arg18 harg18 arg19 harg19 arg21 x0 x1 x2 x5 x6 x7 x8 x9 x10 x11 xs0 xs1 xs2) 6 (by omega) (kernelRun0_C.sl.v2767 c i arg2 harg2 arg3 harg3 arg4 harg4 arg7 harg7 arg8 harg8 arg9 harg9 arg10 harg10 arg11 harg11 arg12 harg12 arg13 harg13 arg18 harg18 arg19 harg19 arg20 harg20 arg21 x0 x1 x2 x5 x6 x7 x8 x9 x10 x11 xs1 xs2 xs3)) (by dsimp only [dcStep, dkrStep, dqPieces, dqLo, dqHi, Dq, Dsq, Pdo, Ds, P, qNope, qRope, doPair, dosS, qs, rowPair]; exact rfl) (congrArg (dkrStep _ 6 _) ?_)
  unfold kernelRun0_C.sl.v2767
  refine (readCov_last _ _ _ _ _ _ _ _ (by decide) (by decide) rfl).trans ?_
  refine Eq.trans (b := dkrStep (blk c i arg2 harg2 arg3 harg3 arg4 harg4 arg7 harg7 arg8 harg8 arg9 harg9 arg10 harg10 arg11 harg11 arg12 harg12 arg13 harg13 arg17 harg17 arg18 harg18 arg19 harg19 arg21 x0 x1 x2 x5 x6 x7 x8 x9 x10 x11 xs0 xs1 xs2) 4 (by omega) (kernelRun0_C.sl.v2689 c i arg2 harg2 arg3 harg3 arg4 harg4 arg7 harg7 arg8 harg8 arg9 harg9 arg10 harg10 arg11 harg11 arg12 harg12 arg13 harg13 arg18 harg18 arg19 harg19 arg20 harg20 arg21 x0 x1 x2 x5 x6 x7 x8 x9 x10 x11 xs1 xs2 xs3)) (by dsimp only [dcStep, dkrStep, dqPieces, dqLo, dqHi, Dq, Dsq, Pdo, Ds, P, qNope, qRope, doPair, dosS, qs, rowPair]; exact rfl) (congrArg (dkrStep _ 4 _) ?_)
  unfold kernelRun0_C.sl.v2689
  refine (readCov_last _ _ _ _ _ _ _ _ (by decide) (by decide) rfl).trans ?_
  refine Eq.trans (b := dkrStep (blk c i arg2 harg2 arg3 harg3 arg4 harg4 arg7 harg7 arg8 harg8 arg9 harg9 arg10 harg10 arg11 harg11 arg12 harg12 arg13 harg13 arg17 harg17 arg18 harg18 arg19 harg19 arg21 x0 x1 x2 x5 x6 x7 x8 x9 x10 x11 xs0 xs1 xs2) 2 (by omega) (kernelRun0_C.sl.v2611 c i arg2 harg2 arg3 harg3 arg4 harg4 arg7 harg7 arg8 harg8 arg9 harg9 arg10 harg10 arg11 harg11 arg12 harg12 arg13 harg13 arg18 harg18 arg19 harg19 arg20 harg20 arg21 x0 x1 x2 x5 x6 x7 x8 x9 x10 x11 xs1 xs2 xs3)) (by dsimp only [dcStep, dkrStep, dqPieces, dqLo, dqHi, Dq, Dsq, Pdo, Ds, P, qNope, qRope, doPair, dosS, qs, rowPair]; exact rfl) (congrArg (dkrStep _ 2 _) ?_)
  unfold kernelRun0_C.sl.v2611
  refine (readCov_last _ _ _ _ _ _ _ _ (by decide) (by decide) rfl).trans ?_
  refine Eq.trans (b := dkrStep (blk c i arg2 harg2 arg3 harg3 arg4 harg4 arg7 harg7 arg8 harg8 arg9 harg9 arg10 harg10 arg11 harg11 arg12 harg12 arg13 harg13 arg17 harg17 arg18 harg18 arg19 harg19 arg21 x0 x1 x2 x5 x6 x7 x8 x9 x10 x11 xs0 xs1 xs2) 0 (by omega) (View.readAt (Elt Ideal) arg20.view (Rect.unit (s := S128x64) ![0, 0] S128x64.size (by decide)).toLoadRect (harg20.unread xs3))) (by dsimp only [dcStep, dkrStep, dqPieces, dqLo, dqHi, Dq, Dsq, Pdo, Ds, P, qNope, qRope, doPair, dosS, qs, rowPair]; exact rfl) rfl

theorem dq : (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xo13 xs0 xs1 xs2 xs3).1 = dqPieces (blk c i arg2 harg2 arg3 harg3 arg4 harg4 arg7 harg7 arg8 harg8 arg9 harg9 arg10 harg10 arg11 harg11 arg12 harg12 arg13 harg13 arg17 harg17 arg18 harg18 arg19 harg19 arg21 x0 x1 x2 x5 x6 x7 x8 x9 x10 x11 xs0 xs1 xs2) := (by dsimp only [dcStep, dkrStep, dqPieces, dqLo, dqHi, Dq, Dsq, Pdo, Ds, P, qNope, qRope, doPair, dosS, qs, rowPair]; exact rfl)

/-! ## The results in terms of the blocks -/

theorem dq_eq : View.canon (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xo13 xs0 xs1 xs2 xs3).1 = View.canon (dqPieces (plain i x0 x1 x2 x5 x6 x7 x8 x9 x10 x11 xs0 xs1 xs2)) :=
  congrArg View.canon ((dq ..).trans (congrArg dqPieces (blk_eq ..)))

theorem dc_eq : View.canon (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xo13 xs0 xs1 xs2 xs3).2.1 = dcAll (plain i x0 x1 x2 x5 x6 x7 x8 x9 x10 x11 xs0 xs1 xs2) xo13 := by
  rw [dc, blk_eq, readAt_whole arg15 harg15 xo13 _ _ (by decide)]

theorem dkr_eq : View.canon (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xo13 xs0 xs1 xs2 xs3).2.2.2.2.2.2.1 = dkrAll (plain i x0 x1 x2 x5 x6 x7 x8 x9 x10 x11 xs0 xs1 xs2) xs3 := by
  rw [dkr, blk_eq, readAt_whole arg20 harg20 xs3 _ _ (by decide)]

theorem dkr_out_eq : View.canon (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xo13 xs0 xs1 xs2 xs3).2.2.1 = k0_pay3 (F := Ideal) (dkrAll (plain i x0 x1 x2 x5 x6 x7 x8 x9 x10 x11 xs0 xs1 xs2) xs3) := by
  refine (canon_last _ _ _ _ _ (by decide) rfl).trans (congrArg (k0_pay3 (F := Ideal)) ?_)
  refine Eq.trans ?_ (dkr_eq c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xo13 xs0 xs1 xs2 xs3)
  unfold kernelRun0_C.sl.v2776
  rw [View.readCov_eq_canon']
  exact View.ld_unit_lit' _ _ (by decide)

theorem out12 : out0_C_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xo13 xs0 xs1 xs2 xs3 = View.canon (dqPieces (plain i x0 x1 x2 x5 x6 x7 x8 x9 x10 x11 xs0 xs1 xs2)) :=
  (View.read_writes_junk_eq_canon _ _).trans (dq_eq c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xo13 xs0 xs1 xs2 xs3)

theorem out13 : out0_C_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xo13 xs0 xs1 xs2 xs3 = dcAll (plain i x0 x1 x2 x5 x6 x7 x8 x9 x10 x11 xs0 xs1 xs2) xo13 :=
  (View.read_writes_junk_eq_canon _ _).trans (dc_eq c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xo13 xs0 xs1 xs2 xs3)

theorem left3 : sout0_C_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xo13 xs0 xs1 xs2 xs3 = dkrAll (plain i x0 x1 x2 x5 x6 x7 x8 x9 x10 x11 xs0 xs1 xs2) xs3 :=
  (View.read_writes_junk_eq_canon _ _).trans (dkr_eq c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xo13 xs0 xs1 xs2 xs3)

theorem out14 : out0_C_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xo13 xs0 xs1 xs2 xs3 = k0_pay3 (F := Ideal) (dkrAll (plain i x0 x1 x2 x5 x6 x7 x8 x9 x10 x11 xs0 xs1 xs2) xs3) :=
  (View.read_writes_junk_eq_canon _ _).trans (dkr_out_eq c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xo13 xs0 xs1 xs2 xs3)

end Cert.KernelIdeal.CaseC

end
-- ==== Proof.Algebra.lean ====
/- The arithmetic on the extended reals by which the kernel's order of operations is the reference's: where a factor is moved
   out of a sum or a difference, it is one that distributes there (a positive real, or a scale that is nonnegative and finite). -/
module

public import Idealize.ShloMosaic.PureOps.Ideal

@[expose] public section

noncomputable section

namespace Cert.Algebra

open Idealize.ShloMosaic

/-- The softmax scale `1/√192`. -/
abbrev S : EReal := (((Real.sqrt 192)⁻¹ : ℝ) : EReal)
/-- `1/log 2`, the factor that turns an exponent of `e` into one of `2`. -/
abbrev L : EReal := (((Real.log 2)⁻¹ : ℝ) : EReal)
/-- Their product. -/
abbrev SL : EReal := (((Real.sqrt 192)⁻¹ * (Real.log 2)⁻¹ : ℝ) : EReal)

theorem S_nonneg : 0 ≤ S := by
  have : (0 : ℝ) ≤ (Real.sqrt 192)⁻¹ := inv_nonneg.mpr (Real.sqrt_nonneg _)
  exact EReal.coe_nonneg.mpr this
theorem S_ne_top : S ≠ ⊤ := EReal.coe_ne_top _

theorem log2_pos : 0 < Real.log 2 := Real.log_pos (by norm_num)
theorem L_pos : (0 : ℝ) < (Real.log 2)⁻¹ := inv_pos.mpr log2_pos
theorem L_nonneg : 0 ≤ L := EReal.coe_nonneg.mpr L_pos.le
theorem L_ne_top : L ≠ ⊤ := EReal.coe_ne_top _

theorem SL_eq : SL = S * L := by
  unfold SL S L; exact EReal.coe_mul _ _

/-- A factor that is nonnegative and finite distributes over a sum. -/
theorem add_mul' {x : EReal} (h0 : 0 ≤ x) (h1 : x ≠ ⊤) (y z : EReal) : (y + z) * x = y * x + z * x :=
  EReal.right_distrib_of_nonneg_of_ne_top h0 h1 y z

/-- The same over a difference. -/
theorem sub_mul' {x : EReal} (h0 : 0 ≤ x) (h1 : x ≠ ⊤) (y z : EReal) : (y - z) * x = y * x - z * x := by
  rw [sub_eq_add_neg, sub_eq_add_neg, add_mul' h0 h1, EReal.neg_mul]

/-- The same over a finite sum. -/
theorem sum_mul' {ι : Type} (s : Finset ι) {x : EReal} (h0 : 0 ≤ x) (h1 : x ≠ ⊤) (f : ι → EReal) :
    (∑ i ∈ s, f i) * x = ∑ i ∈ s, f i * x := by
  classical
  induction s using Finset.induction_on with
  | empty => simp
  | insert a s ha ih => rw [Finset.sum_insert ha, Finset.sum_insert ha, add_mul' h0 h1, ih]

/-- A power of `2` at an exponent divided by `log 2` is the power of `e`, at every extended real. -/
theorem exp2_mul_L (z : EReal) : Ideal.exp2 (z * L) = Ideal.exp z := by
  induction z using EReal.rec with
  | bot => rw [EReal.bot_mul_coe_of_pos L_pos]; rfl
  | top => rw [EReal.top_mul_coe_of_pos L_pos]; rfl
  | coe r =>
    rw [L, ← EReal.coe_mul]
    show ((Real.rpow 2 (r * (Real.log 2)⁻¹) : ℝ) : EReal) = ((Real.exp r : ℝ) : EReal)
    congr 1
    show (2 : ℝ) ^ (r * (Real.log 2)⁻¹) = Real.exp r
    rw [Real.rpow_def_of_pos (by norm_num)]
    congr 1
    have := log2_pos.ne'
    field_simp

/-- The probability: the kernel folds the query's scale, the softmax scale and `1/log 2` into one factor of the exponent of `2`. -/
theorem prob_eq {qs : EReal} (h0 : 0 ≤ qs) (h1 : qs ≠ ⊤) (sn sr cs lse : EReal) :
    Ideal.exp2 ((sn * cs + sr) * (qs * SL) - lse * L) = Ideal.exp (S * (sn * qs * cs + sr * qs) - lse) := by
  rw [← exp2_mul_L, sub_mul' L_nonneg L_ne_top, SL_eq]
  congr 2
  rw [mul_right_comm sn qs cs, ← add_mul' h0 h1]
  ac_rfl

/-- The gradient of a score: the kernel folds the softmax scale into the cotangent's scale. -/
theorem ds_eq (p dp cs dos D : EReal) :
    p * (dp * cs * (dos * S) - D * (dos * S)) = S * (p * (dp * dos * cs - D * dos)) := by
  rw [show dp * cs * (dos * S) = dp * dos * cs * S by ac_rfl, ← mul_assoc D, ← sub_mul' S_nonneg S_ne_top]
  ac_rfl

end Cert.Algebra

end
-- ==== Proof.Entries.lean ====
/- The body's vectors read at an index: what one grid point computes, as scalar formulas of the entries of its blocks. -/
module

public import proofs.«01_k».proof.Proof.Body
public import proofs.«01_k».proof.Proof.Algebra
public import Idealize.ShloMosaic.Lib.Pipeline.ReadBack
public import Idealize.ShloMosaic.Lib.Ring
public import Idealize.ShloMosaic.Lib.WordCmp

@[expose] public section

set_option maxRecDepth 16384

noncomputable section

open Idealize.ShloMosaic Idealize.ShloMosaic.TcCoe Idealize.SL.Sem

namespace Cert.KernelIdeal.Body

open Cert.KernelIdeal Cert.KernelIdeal.Gen Cert.Algebra

theorem quarter0 (r : Fin 128) : r.val < 512 := by omega
theorem quarter1 (r : Fin 128) : 128 + r.val < 512 := by omega
theorem quarter2 (r : Fin 128) : 256 + r.val < 512 := by omega
theorem quarter3 (r : Fin 128) : 384 + r.val < 512 := by omega

/-- The entries one grid point works on: one batch and eight heads. `q` the queries (head, lane, query), `qs` their scales,
    `c` the compressed keys and `cs` their scales, `kr` the position keys, `lse` the log-sum-exps, `D` the output's gradient
    (query, head, lane), `O` the output, `dos` the gradient's scales. -/
structure Pt where
  q : Fin 8 → Fin 576 → Fin 128 → EReal
  qs : Fin 8 → Fin 128 → EReal
  c : Fin 128 → Fin 512 → EReal
  cs : Fin 128 → EReal
  kr : Fin 128 → Fin 64 → EReal
  lse : Fin 8 → Fin 128 → EReal
  D : Fin 128 → Fin 8 → Fin 512 → EReal
  O : Fin 128 → Fin 8 → Fin 512 → EReal
  dos : Fin 128 → EReal

namespace Pt

variable (A : Pt)

/-- The lanes of the keys: the dequantized compressed part, then the position part. -/
def key (j : Fin 128) (d : Fin 576) : EReal :=
  if h : d.val < 512 then A.c j ⟨d.val, h⟩ * A.cs j else A.kr j ⟨d.val - 512, by omega⟩

/-- The probability of key `j` for query `i`. -/
def p (hd : Fin 8) (j i : Fin 128) : EReal :=
  if j.val ≤ i.val then
    Ideal.exp2 (((∑ r : Fin 512, A.c j r * A.q hd ⟨r.val, by omega⟩ i) * A.cs j + ∑ d : Fin 64, A.kr j d * A.q hd ⟨512 + d.val, by omega⟩ i)
      * (A.qs hd i * SL) - A.lse hd i * L)
  else 0

/-- The row sum of gradient times output, scaled. -/
def delta (hd : Fin 8) (i : Fin 128) : EReal := (∑ r : Fin 512, A.D i hd r * A.O i hd r) * (A.dos i * S)

/-- The gradient of the score. -/
def ds (hd : Fin 8) (j i : Fin 128) : EReal :=
  A.p hd j i * ((∑ r : Fin 512, A.c j r * A.D i hd r) * A.cs j * (A.dos i * S) - A.delta hd i)

/-- The gradient of the query. -/
def dq (hd : Fin 8) (d : Fin 576) (i : Fin 128) : EReal := ∑ j : Fin 128, A.key j d * A.ds hd j i

/-- One head's part of the gradient of the compressed keys. -/
def dc (hd : Fin 8) (j : Fin 128) (r : Fin 512) : EReal :=
  ∑ i : Fin 128, (A.ds hd j i * A.qs hd i) * A.q hd ⟨r.val, by omega⟩ i + ∑ i : Fin 128, (A.p hd j i * A.dos i) * A.D i hd r

/-- One head's part of the gradient of the position keys. -/
def dkr (hd : Fin 8) (j : Fin 128) (d : Fin 64) : EReal :=
  ∑ i : Fin 128, (A.ds hd j i * A.qs hd i) * A.q hd ⟨512 + d.val, by omega⟩ i

end Pt

/-- What the body reads is given by the entries `A`. -/
structure Reads (B : Blk) (A : Pt) : Prop where
  x0 : ∀ (r : Rect S1x8x576x128) (x : r.shape.Idx), B.x0 r x = A.q (r.idx x 1) (r.idx x 2) (r.idx x 3)
  x1 : ∀ hd i, B.x1 (ix3 0 hd i) = A.qs hd i
  x2 : ∀ j r, B.x2 (ix3 0 j r) = A.c j r
  x6 : ∀ hd i, B.x6 (ix3 0 hd i) = A.lse hd i
  d : ∀ (r : Rect S1024x512) (x : r.shape.Idx), B.d r x =
    A.D ⟨(r.idx x 0).val % 128, Nat.mod_lt _ (by omega)⟩ ⟨(r.idx x 0).val / 128, Nat.div_lt_of_lt_mul (r.idx x 0).isLt⟩ (r.idx x 1)
  dl : ∀ hd i, B.dl (ix2 hd i) = A.delta hd i
  dos : ∀ i, B.dos (ix2 0 i) = A.dos i
  kt : ∀ d j, B.kt (ix2 d j) = A.key j d
  kr : ∀ j d, B.kr (ix2 j d) = A.kr j d
  cs : ∀ j i, B.cs (ix2 j i) = A.cs j

/-- The column of query `i` of a pair's head `e`. -/
abbrev col (e : Fin 2) (i : Fin 128) : Fin 256 := ⟨128 * e.val + i.val, by omega⟩

/-- The head `e` of the pair that starts at `h`. -/
abbrev hd (h : ℕ) (hh : h + 2 ≤ 8) (e : Fin 2) : Fin 8 := ⟨h + e.val, by omega⟩

theorem rowPair_apply {φ : FTy} (v : FVec Ideal S8x128 φ) (h : ℕ) (hh : h + 2 ≤ 8) (e : Fin 2) (i : Fin 128) :
    rowPair v h hh (ix2 0 (col e i)) = v (ix2 (hd h hh e) i) := by
  fin_cases e <;> pointwise [rowPair] <;> rfl

theorem nope_cat (v w : FVec Ideal S1x1x512x128 .fp8e4m3) (e : Fin 2) (r : Fin 512) (i : Fin 128) :
    concatenate S512x256 1 [⟨S512x128, shapeCast S512x128 v shapeCasts_S1x1x512x128_S512x128⟩,
      ⟨S512x128, shapeCast S512x128 w shapeCasts_S1x1x512x128_S512x128⟩] concatenates_S512x128_S512x128_S512x256_d1
      (ix2 r (col e i)) = if e = 0 then v (ix4 0 0 r i) else w (ix4 0 0 r i) := by
  fin_cases e <;> pointwise [] <;> rfl

theorem rope_cat (v w : FVec Ideal S1x1x64x128 .fp8e4m3) (e : Fin 2) (r : Fin 64) (i : Fin 128) :
    concatenate S64x256 1 [⟨S64x128, shapeCast S64x128 v shapeCasts_S1x1x64x128_S64x128⟩,
      ⟨S64x128, shapeCast S64x128 w shapeCasts_S1x1x64x128_S64x128⟩] concatenates_S64x128_S64x128_S64x256_d1
      (ix2 r (col e i)) = if e = 0 then v (ix4 0 0 r i) else w (ix4 0 0 r i) := by
  fin_cases e <;> pointwise [] <;> rfl

theorem mask_apply (e : Fin 2) (j i : Fin 128) :
    k0_pay208 (ix2 j (col e i)) = Scalar.cmpi .sle (BitVec.ofNat 32 j.val) (BitVec.ofNat 32 i.val) := by
  fin_cases e <;> pointwise [k0_pay208] <;> rfl

theorem mask_le (j i : Fin 128) : (Scalar.cmpi .sle (BitVec.ofNat 32 j.val) (BitVec.ofNat 32 i.val) = 1#1) ↔ (j.val ≤ i.val) := by
  exact WordCmp.cmpi_sle_ofNat_eq_one_iff (w := 32) (by omega) (by omega)

theorem named_scale : (Named.named (F := Ideal) (φ := .f32) κ "scale" 0x3D93CD3A#32 : EReal) = S :=
  IdealRules.named_const.ideal_named_scalar _ _ _ _ rfl

theorem named_scale_log2e : (Named.named (F := Ideal) (φ := .f32) κ "scale_log2e" 0x3DD53B95#32 : EReal) = SL :=
  IdealRules.named_const.ideal_named_scalar _ _ _ _ rfl

theorem named_log2e : (Named.named (F := Ideal) (φ := .f32) κ "log2e" 0x3FB8AA3B#32 : EReal) = L :=
  IdealRules.named_const.ideal_named_scalar _ _ _ _ rfl

theorem cs_cat (v : FVec Ideal S128x128 .f32) (e : Fin 2) (j i : Fin 128) : k0_pay209 v (ix2 j (col e i)) = v (ix2 j i) := by
  fin_cases e <;> pointwise [k0_pay209] <;> rfl

theorem row_cat (v : FVec Ideal S1x128 .f32) (e : Fin 2) (i : Fin 128) : k0_pay210 v (ix2 0 (col e i)) = v (ix2 0 i) := by
  fin_cases e <;> pointwise [k0_pay210] <;> rfl

theorem row_cat_bf16 (v : FVec Ideal S1x128 .f32) (e : Fin 2) (i : Fin 128) : k0_pay211 (F := Ideal) v (ix2 0 (col e i)) = v (ix2 0 i) := by
  fin_cases e <;> pointwise [k0_pay211] <;> rfl

variable {B : Blk} {A : Pt} (R : Reads B A)
include R

theorem qNope_apply (h : ℕ) (hh : h + 2 ≤ 8) (e : Fin 2) (r : Fin 512) (i : Fin 128) :
    qNope B h hh (ix2 r (col e i)) = A.q (hd h hh e) ⟨r.val, by omega⟩ i := by
  refine (nope_cat _ _ e r i).trans ?_
  rw [R.x0, R.x0]
  fin_cases e
  · exact congr (congr (congrArg _ (Fin.ext (by simp [LoadRect.idx]))) (Fin.ext (by simp [LoadRect.idx]))) (Fin.ext (by simp [LoadRect.idx]))
  · exact congr (congr (congrArg _ (Fin.ext (by simp [LoadRect.idx]))) (Fin.ext (by simp [LoadRect.idx]))) (Fin.ext (by simp [LoadRect.idx]))

theorem qRope_apply (h : ℕ) (hh : h + 2 ≤ 8) (e : Fin 2) (d : Fin 64) (i : Fin 128) :
    qRope B h hh (ix2 d (col e i)) = A.q (hd h hh e) ⟨512 + d.val, by omega⟩ i := by
  refine (rope_cat _ _ e d i).trans ?_
  rw [R.x0, R.x0]
  fin_cases e
  · exact congr (congr (congrArg _ (Fin.ext (by simp [LoadRect.idx]))) (Fin.ext (by simp [LoadRect.idx]))) (Fin.ext (by simp [LoadRect.idx]))
  · exact congr (congr (congrArg _ (Fin.ext (by simp [LoadRect.idx]))) (Fin.ext (by simp [LoadRect.idx]))) (Fin.ext (by simp [LoadRect.idx]))

theorem doPair_apply (h : ℕ) (hh : h + 2 ≤ 8) (e : Fin 2) (r : Fin 512) (i : Fin 128) :
    doPair B h hh (ix2 (col e i) r) = A.D i (hd h hh e) r := by
  pointwise [doPair, R.d]
  have h1 : (128 * h + (128 * e.val + i.val)) % 128 = i.val := by omega
  have h2 : (128 * h + (128 * e.val + i.val)) / 128 = h + e.val := by omega
  simp only [h1, h2]

theorem P_apply (h : ℕ) (hh : h + 2 ≤ 8) (e : Fin 2) (j i : Fin 128) : P B h hh (ix2 j (col e i)) = A.p (hd h hh e) j i := by
  pointwise [P, mask_apply, cs_cat, rowPair_apply, qNope_apply R, qRope_apply R, R.x1, R.x2, R.x6, R.kr, R.cs, k0_pay205, k0_pay206, qs, k0_pay204]
  rw [named_scale_log2e, named_log2e]
  unfold Pt.p Scalar.select
  exact if_congr (mask_le j i) rfl rfl

theorem Ds_apply (h : ℕ) (hh : h + 2 ≤ 8) (e : Fin 2) (j i : Fin 128) : Ds B h hh (ix2 j (col e i)) = A.ds (hd h hh e) j i := by
  pointwise [Ds, P_apply R, cs_cat, row_cat, rowPair_apply, doPair_apply R, R.x2, R.dl, R.cs, R.dos, dosS, k0_pay202]
  rw [named_scale]
  rfl

theorem Dq_apply (h : ℕ) (hh : h + 2 ≤ 8) (e : Fin 2) (d : Fin 576) (i : Fin 128) : Dq B h hh (ix2 d (col e i)) = A.dq (hd h hh e) d i := by
  pointwise [Dq, Ds_apply R, R.kt]
  rfl

theorem Dsq_apply (h : ℕ) (hh : h + 2 ≤ 8) (e : Fin 2) (j i : Fin 128) :
    Dsq B h hh (ix2 j (col e i)) = A.ds (hd h hh e) j i * A.qs (hd h hh e) i := by
  pointwise [Dsq, Ds_apply R, rowPair_apply, k0_pay207, qs, k0_pay204, R.x1]

theorem Pdo_apply (h : ℕ) (hh : h + 2 ≤ 8) (e : Fin 2) (j i : Fin 128) :
    Pdo B h hh (ix2 j (col e i)) = A.p (hd h hh e) j i * A.dos i := by
  pointwise [Pdo, P_apply R, row_cat_bf16, R.dos]

omit R in
/-- A sum over a pair's columns, head by head. -/
theorem sum_col (f : Fin 256 → EReal) : ∑ c, f c = ∑ i : Fin 128, f (col 0 i) + ∑ i : Fin 128, f (col 1 i) := by
  rw [Fin.sum_univ_two_halves 128 128 rfl f]
  refine congrArg₂ (· + ·) (Finset.sum_congr rfl fun i _ => congrArg f (Fin.ext ?_)) (Finset.sum_congr rfl fun i _ => congrArg f (Fin.ext ?_)) <;> simp

theorem dcStep_apply (h : ℕ) (hh : h + 2 ≤ 8) (acc : FVec Ideal S1x128x512 .f32) (j : Fin 128) (r : Fin 512) :
    dcStep B h hh acc (ix3 0 j r) = acc (ix3 0 j r) + (A.dc (hd h hh 0) j r + A.dc (hd h hh 1) j r) := by
  pointwise [dcStep]
  rw [sum_col, sum_col]
  simp only [Dsq_apply R, Pdo_apply R, qNope_apply R, doPair_apply R]
  unfold Pt.dc
  rw [add_add_add_comm]

theorem dkrStep_apply (h : ℕ) (hh : h + 2 ≤ 8) (acc : FVec Ideal S128x64 .f32) (j : Fin 128) (d : Fin 64) :
    dkrStep B h hh acc (ix2 j d) = acc (ix2 j d) + (A.dkr (hd h hh 0) j d + A.dkr (hd h hh 1) j d) := by
  pointwise [dkrStep]
  rw [sum_col]
  simp only [Dsq_apply R, qRope_apply R]
  rfl

theorem dcAll_apply (acc : FVec Ideal S1x128x512 .f32) (j : Fin 128) (r : Fin 512) :
    dcAll B acc (ix3 0 j r) = acc (ix3 0 j r) + ∑ hd, A.dc hd j r := by
  unfold dcAll
  simp only [dcStep_apply R, Fin.sum_univ_eight, add_assoc]
  rfl

theorem dkrAll_apply (acc : FVec Ideal S128x64 .f32) (j : Fin 128) (d : Fin 64) :
    dkrAll B acc (ix2 j d) = acc (ix2 j d) + ∑ hd, A.dkr hd j d := by
  unfold dkrAll
  simp only [dkrStep_apply R, Fin.sum_univ_eight, add_assoc]
  rfl

theorem dqLo_apply (h : ℕ) (hh : h + 2 ≤ 8) (d : Fin 576) (i : Fin 128) :
    dqLo B h hh (ix4 0 0 d i) = A.dq ⟨h, by omega⟩ d i := by
  have := Dq_apply R h hh 0 d i
  pointwise [dqLo]
  refine (congrArg _ (congrArg (ix2 d) (Fin.ext ?_))).trans this
  simp

theorem dqHi_apply (h : ℕ) (hh : h + 2 ≤ 8) (d : Fin 576) (i : Fin 128) :
    dqHi B h hh (ix4 0 0 d i) = A.dq ⟨h + 1, by omega⟩ d i := by
  have := Dq_apply R h hh 1 d i
  pointwise [dqHi]
  refine (congrArg _ (congrArg (ix2 d) (Fin.ext ?_))).trans this
  simp

theorem dqLo_at (h : ℕ) (hh : h + 2 ≤ 8) (inb) (x : S1x1x576x128.Idx) :
    dqLo B h hh x = (fun y : S1x8x576x128.Idx => A.dq (y 1) (y 2) (y 3)) ((Rect.unit (s := S1x8x576x128) ![0, h, 0, 0] S1x1x576x128.size inb).emb x) := by
  obtain ⟨a, b, d, i, rfl⟩ : ∃ (a b : Fin 1) (d : Fin 576) (i : Fin 128), x = ix4 a b d i := ⟨_, _, _, _, eq_ix4 x⟩
  obtain rfl := Subsingleton.elim a 0
  obtain rfl := Subsingleton.elim b 0
  refine (dqLo_apply R h hh d i).trans ?_
  exact congr (congr (congrArg _ (Fin.ext (by simp [LoadRect.idx]))) (Fin.ext (by simp [LoadRect.idx]))) (Fin.ext (by simp [LoadRect.idx]))

theorem dqHi_at (h : ℕ) (hh : h + 2 ≤ 8) (inb) (x : S1x1x576x128.Idx) :
    dqHi B h hh x = (fun y : S1x8x576x128.Idx => A.dq (y 1) (y 2) (y 3)) ((Rect.unit (s := S1x8x576x128) ![0, h + 1, 0, 0] S1x1x576x128.size inb).emb x) := by
  obtain ⟨a, b, d, i, rfl⟩ : ∃ (a b : Fin 1) (d : Fin 576) (i : Fin 128), x = ix4 a b d i := ⟨_, _, _, _, eq_ix4 x⟩
  obtain rfl := Subsingleton.elim a 0
  obtain rfl := Subsingleton.elim b 0
  refine (dqHi_apply R h hh d i).trans ?_
  exact congr (congr (congrArg _ (Fin.ext (by simp [LoadRect.idx]))) (Fin.ext (by simp [LoadRect.idx]))) (Fin.ext (by simp [LoadRect.idx]))

/-- The gradient of the queries, read back from its eight stores. -/
theorem dqPieces_apply (y : S1x8x576x128.Idx) : View.canon (dqPieces B) y = A.dq (y 1) (y 2) (y 3) :=
  View.canon_append_of_piecesOf (Val := Elt Ideal) (e := .bf16) (fun y : S1x8x576x128.Idx => A.dq (y 1) (y 2) (y 3)) [] (dqPieces B)
    ⟨dqHi_at R 6 (by omega) (inb_dq 7 (by omega)), dqLo_at R 6 (by omega) (inb_dq 6 (by omega)), dqHi_at R 4 (by omega) (inb_dq 5 (by omega)), dqLo_at R 4 (by omega) (inb_dq 4 (by omega)),
     dqHi_at R 2 (by omega) (inb_dq 3 (by omega)), dqLo_at R 2 (by omega) (inb_dq 2 (by omega)), dqHi_at R 0 (by omega) (inb_dq 1 (by omega)), dqLo_at R 0 (by omega) (inb_dq 0 (by omega)), trivial⟩
    y (View.cover_of_tiledL (dqPieces B) S1x1x576x128.size rfl y)

omit R in
/-- A block's entry at a rectangle's index, by its coordinates. -/
theorem at_idx {s : Shape} {α : Type} (X : s.Idx → α) (off size : Fin s.rank → ℕ) (inb) (x : (Rect.unit off size inb).shape.Idx) (i : s.Idx)
    (hi : ∀ a, (i a : ℕ) = off a + x a) : X ((Rect.unit off size inb).idx x) = X i :=
  congrArg X (funext fun a => Fin.ext ((Rect.idx_unit_val off size inb x a).trans (hi a).symm))

end Cert.KernelIdeal.Body

namespace Cert.KernelIdeal.Body
open Cert.KernelIdeal Cert.KernelIdeal.Gen Cert.Algebra

/-! ## What a point reads of its blocks -/

section Blocks

variable (D : Fin 128 → Fin 8 → Fin 512 → EReal) (O : Fin 128 → Fin 8 → Fin 512 → EReal)
  (x5 : FVec Ideal S1x128x8x512 .bf16) (x7 x8 x9 x10 : FVec Ideal S1x128x8x128 .fp8e5m2)
  (h7 : ∀ i hd (r : Fin 128), x7 (ix4 0 i hd r) = D i hd ⟨r.val, quarter0 r⟩)
  (h8 : ∀ i hd (r : Fin 128), x8 (ix4 0 i hd r) = D i hd ⟨128 + r.val, quarter1 r⟩)
  (h9 : ∀ i hd (r : Fin 128), x9 (ix4 0 i hd r) = D i hd ⟨256 + r.val, quarter2 r⟩)
  (h10 : ∀ i hd (r : Fin 128), x10 (ix4 0 i hd r) = D i hd ⟨384 + r.val, quarter3 r⟩)
  (h5 : ∀ i hd r, x5 (ix4 0 i hd r) = O i hd r)

/-- The gradient scratch array's entries: head by query, lane. -/
def scr (y : S1024x512.Idx) : EReal :=
  D ⟨(y 0).val % 128, Nat.mod_lt _ (by omega)⟩ ⟨(y 0).val / 128, Nat.div_lt_of_lt_mul (y 0).isLt⟩ (y 1)

theorem piece_at (x : FVec Ideal S1x128x8x128 .fp8e5m2) (h l : ℕ) (hh : h + 1 ≤ 8) (hl : l + 1 ≤ 4)
    (hx : ∀ i hd (r : Fin 128), x (ix4 0 i hd r) = D i hd ⟨128 * l + r.val, by omega⟩) (y : S128x128.Idx) :
    (piece (fun r x' => x (r.idx x')) h l hh hl).2 y = scr D ((piece (fun r x' => x (r.idx x')) h l hh hl).1.emb y) := by
  obtain ⟨i, r, rfl⟩ : ∃ (i r : Fin 128), y = ix2 i r := ⟨_, _, eq_ix2 y⟩
  have e1 : ∀ v : FVec Ideal S1x128x1x128 .fp8e5m2, shapeCast S128x128 (shapeCast S128x128 v shapeCasts_S1x128x1x128_S128x128)
      shapeCasts_S128x128_S128x128 (ix2 i r) = v (ix4 0 i 0 r) := fun v => by pointwise []
  refine Eq.trans (e1 fun x' => x ((Rect.unit (s := S1x128x8x128) ![0, 0, h, 0] S1x128x1x128.size (inb_head h hh)).idx x')) ?_
  refine (at_idx x _ _ _ _ (ix4 0 i ⟨h, by omega⟩ r) (by intro a; fin_cases a <;> simp)).trans ?_
  rw [hx]
  refine congr (congr (congrArg D (Fin.ext ?_)) (Fin.ext ?_)) (Fin.ext ?_)
  · show i.val = (128 * h + 1 * i.val) % 128
    omega
  · show h = (128 * h + 1 * i.val) / 128
    omega
  · show 128 * l + r.val = 128 * l + 1 * r.val
    omega

include h7 h8 h9 h10 in
theorem pieces_apply (y : S1024x512.Idx) :
    View.canon (pieces (fun r x => x7 (r.idx x)) (fun r x => x8 (r.idx x)) (fun r x => x9 (r.idx x)) (fun r x => x10 (r.idx x))) y = scr D y := by
  have a7 := fun h hh => piece_at D x7 h 0 hh (by omega) fun i hd r => (h7 i hd r).trans (congrArg _ (Fin.ext (by simp)))
  have a8 := fun h hh => piece_at D x8 h 1 hh (by omega) fun i hd r => (h8 i hd r).trans (congrArg _ (Fin.ext (by simp)))
  have a9 := fun h hh => piece_at D x9 h 2 hh (by omega) fun i hd r => (h9 i hd r).trans (congrArg _ (Fin.ext (by simp)))
  have a10 := fun h hh => piece_at D x10 h 3 hh (by omega) fun i hd r => (h10 i hd r).trans (congrArg _ (Fin.ext (by simp)))
  exact View.canon_append_of_piecesOf (Val := Elt Ideal) (e := .fp8e5m2) (scr D) [] (pieces _ _ _ _)
    ⟨a10 _ _, a10 _ _, a10 _ _, a10 _ _, a10 _ _, a10 _ _, a10 _ _, a10 _ _, a9 _ _, a9 _ _, a9 _ _, a9 _ _, a9 _ _, a9 _ _, a9 _ _, a9 _ _,
     a8 _ _, a8 _ _, a8 _ _, a8 _ _, a8 _ _, a8 _ _, a8 _ _, a8 _ _, a7 _ _, a7 _ _, a7 _ _, a7 _ _, a7 _ _, a7 _ _, a7 _ _, a7 _ _, trivial⟩
    y (View.cover_of_tiledL (pieces _ _ _ _) S128x128.size rfl y)

theorem cast32 {φ : FTy} (v : FVec Ideal S1x4x8x128 φ) (hb) (m : Fin 32) (r : Fin 128) :
    shapeCast S32x128 (extf .f32 (shapeCast S4x8x128 v shapeCasts_S1x4x8x128_S4x8x128) hb) shapeCasts_S4x8x128_S32x128 (ix2 m r)
      = v (ix4 0 ⟨m.val / 8, by omega⟩ ⟨m.val % 8, by omega⟩ r) := by
  pointwise []

include h5 in
theorem prod_apply (x : FVec Ideal S1x128x8x128 .fp8e5m2) (n l : ℕ) (hn : n + 1 ≤ 32) (hl : l + 1 ≤ 4)
    (hx : ∀ i hd (r : Fin 128), x (ix4 0 i hd r) = D i hd ⟨128 * l + r.val, by omega⟩) (k : Fin 4) (hd : Fin 8) (r : Fin 128) :
    prod (fun r x' => x (r.idx x')) (fun r x' => x5 (r.idx x')) n l hn hl (ix2 ⟨8 * k.val + hd.val, by omega⟩ r)
      = D ⟨4 * n + k.val, by omega⟩ hd ⟨128 * l + r.val, by omega⟩ * O ⟨4 * n + k.val, by omega⟩ hd ⟨128 * l + r.val, by omega⟩ := by
  have e1 : (8 * k.val + hd.val) / 8 = k.val := by omega
  have e2 : (8 * k.val + hd.val) % 8 = hd.val := by omega
  refine congrArg₂ (· * ·) ?_ ?_
  · refine (cast32 (φ := .fp8e5m2) (fun x' => x ((Rect.unit (s := S1x128x8x128) ![0, 4 * n, 0, 0] S1x4x8x128.size (inb_do n hn)).idx x')) _ _ _).trans ?_
    refine (at_idx x _ _ _ _ (ix4 0 ⟨4 * n + k.val, by omega⟩ hd r) (by intro a; fin_cases a <;> simp [e1, e2])).trans ?_
    rw [hx]
  · refine (cast32 (φ := .bf16) (fun x' => x5 ((Rect.unit (s := S1x128x8x512) ![0, 4 * n, 0, 128 * l] S1x4x8x128.size (inb_o n l hn hl)).idx x')) _ _ _).trans ?_
    refine (at_idx x5 _ _ _ _ (ix4 0 ⟨4 * n + k.val, by omega⟩ hd ⟨128 * l + r.val, by omega⟩) (by intro a; fin_cases a <;> simp [e1, e2])).trans ?_
    rw [h5]

include h5 h7 h8 h9 h10 in
theorem part_sum (n : ℕ) (hn : n + 1 ≤ 32) (k : Fin 4) (hd : Fin 8) :
    ∑ r : Fin 128, part (fun r x => x5 (r.idx x)) (fun r x => x7 (r.idx x)) (fun r x => x8 (r.idx x)) (fun r x => x9 (r.idx x)) (fun r x => x10 (r.idx x))
      n hn (ix2 ⟨8 * k.val + hd.val, by omega⟩ r)
      = ∑ r : Fin 512, D ⟨4 * n + k.val, by omega⟩ hd r * O ⟨4 * n + k.val, by omega⟩ hd r := by
  rw [Fin.sum_univ_tiles 4 128 rfl, Finset.sum_comm]
  refine Finset.sum_congr rfl fun r _ => ?_
  rw [Fin.sum_univ_four]
  have a7 := prod_apply D O x5 h5 x7 n 0 hn (by omega) (fun i hd r => (h7 i hd r).trans (congrArg _ (Fin.ext (by simp)))) k hd r
  have a8 := prod_apply D O x5 h5 x8 n 1 hn (by omega) (fun i hd r => (h8 i hd r).trans (congrArg _ (Fin.ext (by simp)))) k hd r
  have a9 := prod_apply D O x5 h5 x9 n 2 hn (by omega) (fun i hd r => (h9 i hd r).trans (congrArg _ (Fin.ext (by simp)))) k hd r
  have a10 := prod_apply D O x5 h5 x10 n 3 hn (by omega) (fun i hd r => (h10 i hd r).trans (congrArg _ (Fin.ext (by simp)))) k hd r
  exact congrArg₂ (· + ·) (congrArg₂ (· + ·) (congrArg₂ (· + ·) a7 a8) a9) a10

theorem lane_apply (p : FVec Ideal S32x128 .f32) (prev : FVec Ideal S8x128 .f32) (n k : ℕ) (hn : n + 1 ≤ 32) (hk : k + 1 ≤ 4) (hd : Fin 8) (i : Fin 128) :
    lane p prev n k hk (ix2 hd i) = if i.val = 4 * n + k then ∑ r : Fin 128, p (ix2 ⟨8 * k + hd.val, by omega⟩ r) else prev (ix2 hd i) := by
  pointwise [lane]
  exact if_congr (WordCmp.cmpi_eq_ofNat_eq_one_iff (w := 32) (by omega) (by omega)) rfl rfl

include h5 h7 h8 h9 h10 in
theorem rowSums_apply (n : ℕ) (hn : n ≤ 32) (hd : Fin 8) (i : Fin 128) :
    rowSums (fun r x => x5 (r.idx x)) (fun r x => x7 (r.idx x)) (fun r x => x8 (r.idx x)) (fun r x => x9 (r.idx x)) (fun r x => x10 (r.idx x)) n hn (ix2 hd i)
      = if i.val < 4 * n then ∑ r : Fin 512, D i hd r * O i hd r else 0 := by
  induction n with
  | zero =>
    rw [if_neg (by omega)]
    exact Ideal.ofBits_zero_f32
  | succ n ih =>
    have hp := part_sum D O x5 x7 x8 x9 x10 h7 h8 h9 h10 h5 n hn
    unfold rowSums
    rw [lane_apply _ _ n 3 hn, lane_apply _ _ n 2 hn, lane_apply _ _ n 1 hn, lane_apply _ _ n 0 hn, ih]
    have q : ∀ k : Fin 4, i.val = 4 * n + k.val → ∑ r : Fin 512, D ⟨4 * n + k.val, by omega⟩ hd r * O ⟨4 * n + k.val, by omega⟩ hd r
        = ∑ r : Fin 512, D i hd r * O i hd r := by
      intro k hk
      have : (⟨4 * n + k.val, by omega⟩ : Fin 128) = i := Fin.ext hk.symm
      rw [this]
    by_cases c3 : i.val = 4 * n + 3
    · rw [if_pos c3, if_pos (by omega)]; exact (hp 3 hd).trans (q 3 c3)
    rw [if_neg c3]
    by_cases c2 : i.val = 4 * n + 2
    · rw [if_pos c2, if_pos (by omega)]; exact (hp 2 hd).trans (q 2 c2)
    rw [if_neg c2]
    by_cases c1 : i.val = 4 * n + 1
    · rw [if_pos c1, if_pos (by omega)]; exact (hp 1 hd).trans (q 1 c1)
    rw [if_neg c1]
    by_cases c0 : i.val = 4 * n + 0
    · rw [if_pos c0, if_pos (by omega)]; exact (hp 0 hd).trans (q 0 c0)
    rw [if_neg c0]
    by_cases c : i.val < 4 * n
    · rw [if_pos c, if_pos (by omega)]
    · rw [if_neg c, if_neg (by omega)]

end Blocks

section Keys

variable (A : Pt) (x2 : FVec Ideal S1x128x512 .fp8e4m3) (x4 : FVec Ideal S1x64x128 .bf16) (s : FVec Ideal S1x128 .f32)
  (h2 : ∀ j r, x2 (ix3 0 j r) = A.c j r) (h4 : ∀ d j, x4 (ix3 0 d j) = A.kr j d) (hs : ∀ j, s (ix2 0 j) = A.cs j)

include hs in
theorem csCol_apply (j i : Fin 128) : csCol s (ix2 j i) = A.cs j := by
  pointwise [csCol]
  exact hs j

include h4 in
theorem krT_apply (j : Fin 128) (d : Fin 64) : krT x4 (ix2 j d) = A.kr j d := by
  pointwise [krT]
  exact h4 d j

include h2 hs in
theorem ktPiece_at (l : ℕ) (hl : l + 1 ≤ 4) (y : S128x128.Idx) : (ktPiece (fun r x => x2 (r.idx x)) s l hl).2 y
    = (fun y : S576x128.Idx => A.key (y 1) (y 0)) ((ktPiece (fun r x => x2 (r.idx x)) s l hl).1.emb y) := by
  obtain ⟨d, j, rfl⟩ : ∃ (d j : Fin 128), y = ix2 d j := ⟨_, _, eq_ix2 y⟩
  have e1 : ∀ v : FVec Ideal S1x128x128 .fp8e4m3, shapeCast S128x128 (truncf .bf16 (transpose S128x128 [1, 0] (mulf (extf .f32
      (shapeCast S128x128 v shapeCasts_S1x128x128_S128x128) bitsLt_fp8e4m3_f32) (csCol s)) transposes_S128x128_p1_0_S128x128) bitsLt_bf16_f32)
      shapeCasts_S128x128_S128x128 (ix2 d j) = v (ix3 0 j d) * csCol s (ix2 j d) := fun v => by pointwise []
  refine Eq.trans (e1 fun x' => x2 ((Rect.unit (s := S1x128x512) ![0, 0, 128 * l] S1x128x128.size (inb_keys l hl)).idx x')) ?_
  rw [csCol_apply A s hs]
  have e2 := at_idx x2 ![0, 0, 128 * l] S1x128x128.size (inb_keys l hl) (ix3 0 j d) (ix3 0 j ⟨128 * l + d.val, by omega⟩)
    (by intro a; fin_cases a <;> simp)
  have e3 : A.key j ⟨128 * l + d.val, by omega⟩ = A.c j ⟨128 * l + d.val, by omega⟩ * A.cs j := dif_pos (by show 128 * l + d.val < 512; omega)
  refine (congrArg (· * A.cs j) (e2.trans (h2 _ _))).trans (e3.symm.trans ?_)
  refine congr (congrArg A.key (Fin.ext ?_)) (Fin.ext ?_)
  · show j.val = 0 + 1 * j.val
    omega
  · show 128 * l + d.val = 128 * l + 1 * d.val
    omega

include h2 h4 hs in
theorem ktPieces_apply (y : S576x128.Idx) : View.canon (ktPieces (fun r x => x2 (r.idx x)) x4 s) y = A.key (y 1) (y 0) := by
  refine View.canon_append_of_piecesOf (Val := Elt Ideal) (e := .bf16) (fun y : S576x128.Idx => A.key (y 1) (y 0)) [] (ktPieces _ x4 s)
    ⟨fun x => ?_, ktPiece_at A x2 s h2 hs 3 _, ktPiece_at A x2 s h2 hs 2 _, ktPiece_at A x2 s h2 hs 1 _, ktPiece_at A x2 s h2 hs 0 _, trivial⟩ y ?_
  · obtain ⟨d, j, rfl⟩ : ∃ (d : Fin 64) (j : Fin 128), x = ix2 d j := ⟨_, _, eq_ix2 x⟩
    have e1 : shapeCast S64x128 (shapeCast S64x128 x4 shapeCasts_S1x64x128_S64x128) shapeCasts_S64x128_S64x128 (ix2 d j) = x4 (ix3 0 d j) := by
      pointwise []
    have e3 : A.key j ⟨512 + d.val, by omega⟩ = A.kr j ⟨512 + d.val - 512, by omega⟩ := dif_neg (by show ¬ 512 + d.val < 512; omega)
    refine e1.trans ((h4 d j).trans (Eq.trans ?_ (e3.symm.trans ?_)))
    · exact congrArg _ (Fin.ext (by show d.val = 512 + d.val - 512; omega))
    · refine congr (congrArg A.key (Fin.ext ?_)) (Fin.ext ?_)
      · show j.val = 0 + 1 * j.val
        omega
      · show 512 + d.val = 512 + 1 * d.val
        omega
  · have h1 := (y 1).isLt
    have h0 := (y 0).isLt
    simp only [ktPieces, ktPiece, List.mem_cons, List.not_mem_nil, or_false, exists_eq_or_imp, exists_eq_left, Rect.mem_set_unit, Fin.forall_fin_two]
    simp at h0 h1 ⊢
    omega

end Keys

/-- What a point reads, from its blocks' entries. -/
theorem reads_plain (A : Pt) (i : grid0.Coords) (x0 : FVec Ideal S1x8x576x128 .fp8e4m3) (x1 : FVec Ideal S1x8x128 .f32) (x2 : FVec Ideal S1x128x512 .fp8e4m3)
    (x5 : FVec Ideal S1x128x8x512 .bf16) (x6 : FVec Ideal S1x8x128 .f32) (x7 x8 x9 x10 : FVec Ideal S1x128x8x128 .fp8e5m2)
    (x11 : FVec Ideal S12x128 .f32) (kt : FVec Ideal S576x128 .bf16) (kr : FVec Ideal S128x64 .bf16) (cs : FVec Ideal S128x128 .f32)
    (h0 : ∀ hd r i, x0 (ix4 0 hd r i) = A.q hd r i) (h1 : ∀ hd i, x1 (ix3 0 hd i) = A.qs hd i) (h2 : ∀ j r, x2 (ix3 0 j r) = A.c j r)
    (h5 : ∀ i hd r, x5 (ix4 0 i hd r) = A.O i hd r) (h6 : ∀ hd i, x6 (ix3 0 hd i) = A.lse hd i)
    (h7 : ∀ i hd (r : Fin 128), x7 (ix4 0 i hd r) = A.D i hd ⟨r.val, quarter0 r⟩)
    (h8 : ∀ i hd (r : Fin 128), x8 (ix4 0 i hd r) = A.D i hd ⟨128 + r.val, quarter1 r⟩)
    (h9 : ∀ i hd (r : Fin 128), x9 (ix4 0 i hd r) = A.D i hd ⟨256 + r.val, quarter2 r⟩)
    (h10 : ∀ i hd (r : Fin 128), x10 (ix4 0 i hd r) = A.D i hd ⟨384 + r.val, quarter3 r⟩)
    (h11 : ∀ l : Fin 128, x11 ((Rect.unit (s := S12x128) (k0_off2 i) S1x128.size (k0_off2_inb i)).idx (ix2 0 l)) = A.dos l)
    (hkt : ∀ d j, kt (ix2 d j) = A.key j d) (hkr : ∀ j d, kr (ix2 j d) = A.kr j d) (hcs : ∀ j i, cs (ix2 j i) = A.cs j) :
    Reads (plain i x0 x1 x2 x5 x6 x7 x8 x9 x10 x11 kt kr cs) A where
  x0 r x := by
    show x0 (r.idx x) = _
    generalize r.idx x = z
    obtain ⟨a, hd, d, l, rfl⟩ : ∃ (a : Fin 1) (hd : Fin 8) (d : Fin 576) (l : Fin 128), z = ix4 a hd d l := ⟨_, _, _, _, eq_ix4 z⟩
    obtain rfl := Subsingleton.elim a 0
    exact h0 hd d l
  x1 := h1
  x2 := h2
  x6 := h6
  d r x := pieces_apply A.D x7 x8 x9 x10 h7 h8 h9 h10 _
  dl hd l := by
    have e := rowSums_apply A.D A.O x5 x7 x8 x9 x10 h7 h8 h9 h10 h5 32 (by omega) hd l
    rw [if_pos (by omega)] at e
    refine congrArg₂ (· * ·) e ?_
    have e2 : ∀ v : FVec Ideal S1x128 .f32, broadcastTo S8x128 (k0_pay202 v) broadcasts_S1x128_S8x128 (ix2 hd l)
        = v (ix2 0 l) * (Named.named (F := Ideal) (φ := .f32) κ "scale" 0x3D93CD3A#32 : EReal) := fun v => by pointwise [k0_pay202]
    refine (e2 _).trans (congrArg₂ (· * ·) (h11 l) named_scale)
  dos := h11
  kt := hkt
  kr := hkr
  cs := hcs

end Cert.KernelIdeal.Body

end
-- ==== Proof.Blocks.lean ====
/- The blocks of a grid point: the entries of the argument arrays they hold. -/
module

public import proofs.«01_k».proof.Proof.Gen.KernelIdeal.Frame
public import proofs.«01_k».proof.Proof.Entries
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen Cert.KernelIdeal.Body

/-- The entries of the argument arrays that batch `b` and head tile `t` work on. -/
def point (a0 : FVec Ideal S12x128x40x576 .fp8e4m3) (a1 : FVec Ideal S12x128x40 .f32) (a2 : FVec Ideal S12x128x512 .fp8e4m3)
    (a3 : FVec Ideal S12x128 .f32) (a4 : FVec Ideal S12x128x64 .bf16) (a5 : FVec Ideal S12x128x40x512 .bf16)
    (a6 : FVec Ideal S12x128x40 .f32) (a7 : FVec Ideal S12x128x40x512 .fp8e5m2) (a8 : FVec Ideal S12x128 .f32)
    (b : Fin 12) (t : Fin 5) : Pt where
  q hd r i := a0 (ix4 b i ⟨8 * t.val + hd.val, by omega⟩ r)
  qs hd i := a1 (ix3 b i ⟨8 * t.val + hd.val, by omega⟩)
  c j r := a2 (ix3 b j r)
  cs j := a3 (ix2 b j)
  kr j d := a4 (ix3 b j d)
  lse hd i := a6 (ix3 b i ⟨8 * t.val + hd.val, by omega⟩)
  D i hd r := a7 (ix4 b i ⟨8 * t.val + hd.val, by omega⟩ r)
  O i hd r := a5 (ix4 b i ⟨8 * t.val + hd.val, by omega⟩ r)
  dos i := a8 (ix2 b i)

theorem idx : ∀ t : Fin cfg0.N,
    win0_0.index t = ![t.val / 5, t.val % 5, 0, 0] ∧ win0_1.index t = ![t.val / 5, t.val % 5, 0] ∧ win0_2.index t = ![t.val / 5, 0, 0] ∧
    win0_3.index t = ![0, 0] ∧ win0_4.index t = ![t.val / 5, 0, 0] ∧ win0_5.index t = ![t.val / 5, 0, t.val % 5, 0] ∧
    win0_6.index t = ![t.val / 5, t.val % 5, 0] ∧ win0_7.index t = ![t.val / 5, 0, t.val % 5, 0] ∧ win0_8.index t = ![t.val / 5, 0, t.val % 5, 1] ∧
    win0_9.index t = ![t.val / 5, 0, t.val % 5, 2] ∧ win0_10.index t = ![t.val / 5, 0, t.val % 5, 3] ∧ win0_11.index t = ![0, 0] ∧
    win0_12.index t = ![t.val / 5, t.val % 5, 0, 0] ∧ win0_13.index t = ![t.val / 5, 0, 0] ∧ win0_14.index t = ![t.val / 5, 0, 0] ∧
    t.val < 60 :=
  (by decide +kernel : ∀ t : Fin grid0.N, _)

theorem off : ∀ t : Fin cfg0.N, k0_off1 (grid0.coords t) = ![t.val / 5, 0] ∧ k0_off2 (grid0.coords t) = ![t.val / 5, 0] :=
  (by decide +kernel : ∀ t : Fin grid0.N, _)

/-- The batch and the head tile of a grid point. -/
def bt (t : Fin cfg0.N) : Fin 12 := ⟨t.val / 5, by have h : t.val < 60 := (idx t).2.2.2.2.2.2.2.2.2.2.2.2.2.2.2; omega⟩
def tl (t : Fin cfg0.N) : Fin 5 := ⟨t.val % 5, by omega⟩

variable (m : (ℓ : Loc nD τ sig) → Buf (Elt Ideal) ℓ) (c : Dev nD)

/-- The entries the memory `m` gives batch `b` and head tile `t`. -/
abbrev at_ (b : Fin 12) (t : Fin 5) : Pt :=
  point (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8)) b t

variable (t : Fin cfg0.N)

theorem v0 : (V m c main_v0 : FVec Ideal S12x40x576x128 .fp8e4m3) =
    transpose S12x40x576x128 [0, 2, 3, 1] (m ((c : Thread nD τ).loc main_arg0)) transposes_S12x128x40x576_S12x40x576x128_0_2_3_1 := by
  rfl

theorem v1 : (V m c main_v1 : FVec Ideal S12x40x128 .f32) =
    transpose S12x40x128 [0, 2, 1] (m ((c : Thread nD τ).loc main_arg1)) transposes_S12x128x40_S12x40x128_0_2_1 := by
  rfl

theorem v2 : (V m c main_v2 : FVec Ideal S12x40x128 .f32) =
    transpose S12x40x128 [0, 2, 1] (m ((c : Thread nD τ).loc main_arg6)) transposes_S12x128x40_S12x40x128_0_2_1 := by
  rfl

theorem v3 : (V m c main_v3 : FVec Ideal S12x64x128 .bf16) =
    transpose S12x64x128 [0, 2, 1] (m ((c : Thread nD τ).loc main_arg4)) transposes_S12x128x64_S12x64x128_0_2_1 := by
  rfl

theorem b0 (hd : Fin 8) (r : Fin 576) (i : Fin 128) : iblk m c 0 t (ix4 0 hd r i) = (at_ m c (bt t) (tl t)).q hd r i := by
  blk_simp [iblk]
  refine (congrArg (V m c main_v0) (show _ = (ix4 (bt t) ⟨8 * (tl t).val + hd.val, by omega⟩ r i : S12x40x576x128.Idx) by unfold bt tl; blk_ext [idx t])).trans ?_
  rw [v0]
  pointwise
  rfl

theorem b1 (hd : Fin 8) (i : Fin 128) : iblk m c 1 t (ix3 0 hd i) = (at_ m c (bt t) (tl t)).qs hd i := by
  blk_simp [iblk]
  refine (congrArg (V m c main_v1) (show _ = (ix3 (bt t) ⟨8 * (tl t).val + hd.val, by omega⟩ i : S12x40x128.Idx) by unfold bt tl; blk_ext [idx t])).trans ?_
  rw [v1]
  pointwise
  rfl

theorem b6 (hd : Fin 8) (i : Fin 128) : iblk m c 6 t (ix3 0 hd i) = (at_ m c (bt t) (tl t)).lse hd i := by
  blk_simp [iblk]
  refine (congrArg (V m c main_v2) (show _ = (ix3 (bt t) ⟨8 * (tl t).val + hd.val, by omega⟩ i : S12x40x128.Idx) by unfold bt tl; blk_ext [idx t])).trans ?_
  rw [v2]
  pointwise
  rfl

theorem b4 (d : Fin 64) (j : Fin 128) : iblk m c 4 t (ix3 0 d j) = (at_ m c (bt t) (tl t)).kr j d := by
  blk_simp [iblk]
  refine (congrArg (V m c main_v3) (show _ = (ix3 (bt t) d j : S12x64x128.Idx) by unfold bt; blk_ext [idx t])).trans ?_
  rw [v3]
  pointwise
  rfl

theorem b2 (j : Fin 128) (r : Fin 512) : iblk m c 2 t (ix3 0 j r) = (at_ m c (bt t) (tl t)).c j r := by
  unfold at_ point bt tl
  blk_ext [iblk, V, idx t]

theorem b5 (i : Fin 128) (hd : Fin 8) (r : Fin 512) : iblk m c 5 t (ix4 0 i hd r) = (at_ m c (bt t) (tl t)).O i hd r := by
  unfold at_ point bt tl
  blk_ext [iblk, V, idx t]

theorem b7 (i : Fin 128) (hd : Fin 8) (r : Fin 128) : iblk m c 7 t (ix4 0 i hd r) = (at_ m c (bt t) (tl t)).D i hd ⟨r.val, quarter0 r⟩ := by
  unfold at_ point bt tl
  blk_ext [iblk, V, idx t]

theorem b8 (i : Fin 128) (hd : Fin 8) (r : Fin 128) : iblk m c 8 t (ix4 0 i hd r) = (at_ m c (bt t) (tl t)).D i hd ⟨128 + r.val, quarter1 r⟩ := by
  unfold at_ point bt tl
  blk_ext [iblk, V, idx t]

theorem b9 (i : Fin 128) (hd : Fin 8) (r : Fin 128) : iblk m c 9 t (ix4 0 i hd r) = (at_ m c (bt t) (tl t)).D i hd ⟨256 + r.val, quarter2 r⟩ := by
  unfold at_ point bt tl
  blk_ext [iblk, V, idx t]

theorem b10 (i : Fin 128) (hd : Fin 8) (r : Fin 128) : iblk m c 10 t (ix4 0 i hd r) = (at_ m c (bt t) (tl t)).D i hd ⟨384 + r.val, quarter3 r⟩ := by
  unfold at_ point bt tl
  blk_ext [iblk, V, idx t]

theorem row_idx (X : FVec Ideal S12x128 .f32) (off : Fin 2 → ℕ) (b : Fin 12) (h : off = ![b.val, 0]) (inb) (j : Fin 128) :
    X ((Rect.unit (s := S12x128) off S1x128.size inb).idx (ix2 0 j)) = X (ix2 b j) := by
  subst h
  exact at_idx X _ _ inb (ix2 0 j) (ix2 b j) (by intro a; fin_cases a <;> simp)

theorem b3 (inb) (j : Fin 128) :
    (iblk m c 3 t : FVec Ideal S12x128 .f32) ((Rect.unit (s := S12x128) (k0_off1 (grid0.coords t)) S1x128.size inb).idx (ix2 0 j)) = (at_ m c (bt t) (tl t)).cs j := by
  refine (row_idx (iblk m c 3 t) _ (bt t) (off t).1 inb _).trans ?_
  unfold at_ point bt tl
  blk_ext [iblk, V, idx t]

theorem b11 (inb) (i : Fin 128) :
    (iblk m c 11 t : FVec Ideal S12x128 .f32) ((Rect.unit (s := S12x128) (k0_off2 (grid0.coords t)) S1x128.size inb).idx (ix2 0 i)) = (at_ m c (bt t) (tl t)).dos i := by
  refine (row_idx (iblk m c 11 t) _ (bt t) (off t).2 inb _).trans ?_
  unfold at_ point bt tl
  blk_ext [iblk, V, idx t]

end Cert.KernelIdeal.Value

end
-- ==== Proof.Points.lean ====
/- What each grid point leaves behind: its block of the query gradient, and the running sums of the other two. -/
module

public import proofs.«01_k».proof.Proof.CaseA
public import proofs.«01_k».proof.Proof.CaseB
public import proofs.«01_k».proof.Proof.CaseC
public import proofs.«01_k».proof.Proof.Blocks

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen Cert.KernelIdeal.Body

variable (m : (ℓ : Loc nD τ sig) → Buf (Elt Ideal) ℓ) (c : Dev nD)

/-- The scratch arrays hold the keys of batch `b`. -/
structure Keys (b : Fin 12) (kt : FVec Ideal S576x128 .bf16) (kr : FVec Ideal S128x64 .bf16) (cs : FVec Ideal S128x128 .f32) : Prop where
  kt : ∀ (t : Fin 5) d j, kt (ix2 d j) = (at_ m c b t).key j d
  kr : ∀ (t : Fin 5) j d, kr (ix2 j d) = (at_ m c b t).kr j d
  cs : ∀ (t : Fin 5) j i, cs (ix2 j i) = (at_ m c b t).cs j

variable (t : Fin cfg0.N)

/-- What grid point `t` leaves, and what the one before it left. -/
abbrev here := outsAt0 m c t.val t.isLt
abbrev prev := outsAt0 m c (t.val - 1) (Nat.lt_of_le_of_lt (Nat.sub_le _ _) t.isLt)

/-- What grid point `t` works on, given the keys. -/
abbrev plainAt (kt : FVec Ideal S576x128 .bf16) (kr : FVec Ideal S128x64 .bf16) (cs : FVec Ideal S128x128 .f32) : Blk :=
  plain (grid0.coords t) (iblk m c 0 t) (iblk m c 1 t) (iblk m c 2 t) (iblk m c 5 t) (iblk m c 6 t) (iblk m c 7 t) (iblk m c 8 t)
    (iblk m c 9 t) (iblk m c 10 t) (iblk m c 11 t) kt kr cs

theorem reads_at (kt : FVec Ideal S576x128 .bf16) (kr : FVec Ideal S128x64 .bf16) (cs : FVec Ideal S128x128 .f32)
    (K : Keys m c (bt t) kt kr cs) : Reads (plainAt m c t kt kr cs) (at_ m c (bt t) (tl t)) :=
  reads_plain (at_ m c (bt t) (tl t)) (grid0.coords t) _ _ _ _ _ _ _ _ _ _ kt kr cs (b0 m c t) (b1 m c t) (b2 m c t) (b5 m c t) (b6 m c t)
    (b7 m c t) (b8 m c t) (b9 m c t) (b10 m c t) (b11 m c t _) (K.kt _) (K.kr _) (K.cs _)

/-- What the first point of a batch stores as keys. -/
abbrev firstCs (h0 : t.val % 5 = 0) : FVec Ideal S1x128 .f32 := fun x => (iblk m c 3 t : FVec Ideal S12x128 .f32)
  ((Rect.unit (s := S12x128) (k0_off1 (grid0.coords t)) S1x128.size (k0_off1_inb (grid0.coords t) ((hcond0_0 t).mpr h0))).idx x)
abbrev firstKt (h0 : t.val % 5 = 0) : FVec Ideal S576x128 .bf16 :=
  View.canon (Val := Elt Ideal) (e := .bf16) (ktPieces (fun r x => (iblk m c 2 t : FVec Ideal S1x128x512 .fp8e4m3) (r.idx x)) (iblk m c 4 t) (firstCs m c t h0))

theorem firstKeys (h0 : t.val % 5 = 0) : Keys m c (bt t) (firstKt m c t h0) (krT (iblk m c 4 t)) (csCol (firstCs m c t h0)) :=
  ⟨fun u d j => ktPieces_apply (at_ m c (bt t) (tl t)) (iblk m c 2 t) (iblk m c 4 t) (firstCs m c t h0) (b2 m c t) (b4 m c t) (b3 m c t _) (ix2 d j),
    fun u j d => krT_apply (at_ m c (bt t) (tl t)) (iblk m c 4 t) (b4 m c t) j d,
    fun u j i => csCol_apply (at_ m c (bt t) (tl t)) (firstCs m c t h0) (b3 m c t _) j i⟩

/-- The keys the first point of a batch leaves. -/
theorem keys_first (h0 : t.val % 5 = 0) :
    Keys m c (bt t) (here m c t).2.2.2.1 (here m c t).2.2.2.2.1 (here m c t).2.2.2.2.2.1 := by
  have h1 : ¬t.val % 5 = 4 := by omega
  have e : here m c t = _ := outsAt0_A m c t h0 h1
  have e0 : (here m c t).2.2.2.1 = firstKt m c t h0 := by rw [e]; dsimp only; exact CaseA.left0 ..
  have e1 : (here m c t).2.2.2.2.1 = krT (iblk m c 4 t) := by rw [e]; dsimp only; exact CaseA.left1 ..
  have e2 : (here m c t).2.2.2.2.2.1 = csCol (firstCs m c t h0) := by rw [e]; dsimp only; exact CaseA.left2 ..
  rw [e0, e1, e2]
  exact firstKeys m c t h0

/-- Later points of a batch leave the keys alone. -/
theorem keys_next (h0 : ¬t.val % 5 = 0) :
    (here m c t).2.2.2.1 = (prev m c t).2.2.2.1 ∧ (here m c t).2.2.2.2.1 = (prev m c t).2.2.2.2.1 ∧
      (here m c t).2.2.2.2.2.1 = (prev m c t).2.2.2.2.2.1 := by
  by_cases h1 : t.val % 5 = 4
  · have e : here m c t = _ := outsAt0_C m c t h0 h1
    exact ⟨congrArg (fun o => o.2.2.2.1) e, congrArg (fun o => o.2.2.2.2.1) e, congrArg (fun o => o.2.2.2.2.2.1) e⟩
  · have e : here m c t = _ := outsAt0_B m c t h0 h1
    exact ⟨congrArg (fun o => o.2.2.2.1) e, congrArg (fun o => o.2.2.2.2.1) e, congrArg (fun o => o.2.2.2.2.2.1) e⟩

theorem keys : ∀ (n : ℕ) (hn : n < cfg0.N), Keys m c (bt ⟨n, hn⟩) (outsAt0 m c n hn).2.2.2.1 (outsAt0 m c n hn).2.2.2.2.1
    (outsAt0 m c n hn).2.2.2.2.2.1
  | 0, hn => keys_first m c ⟨0, hn⟩ rfl
  | n + 1, hn => by
    by_cases h0 : (n + 1) % 5 = 0
    · exact keys_first m c ⟨n + 1, hn⟩ h0
    · have eb : bt ⟨n + 1, hn⟩ = bt ⟨n, Nat.lt_of_succ_lt hn⟩ := Fin.ext (by show (n + 1) / 5 = n / 5; omega)
      obtain ⟨e0, e1, e2⟩ := keys_next m c ⟨n + 1, hn⟩ h0
      have K := keys n (Nat.lt_of_succ_lt hn)
      rw [eb]
      exact ⟨fun u d j => (congrFun e0 _).trans (K.kt u d j), fun u j d => (congrFun e1 _).trans (K.kr u j d),
        fun u j i => (congrFun e2 _).trans (K.cs u j i)⟩

/-- What the first point of a batch works on, and what it leaves. -/
abbrev firstPlain (h0 : t.val % 5 = 0) : Blk := plainAt m c t (firstKt m c t h0) (krT (iblk m c 4 t)) (csCol (firstCs m c t h0))

theorem first12 (h0 : t.val % 5 = 0) (h1 : ¬t.val % 5 = 4) : (here m c t).1 = View.canon (dqPieces (firstPlain m c t h0)) := by
  have e : here m c t = _ := outsAt0_A m c t h0 h1
  rw [e]
  dsimp only
  rw [CaseA.out12]

theorem first13 (h0 : t.val % 5 = 0) (h1 : ¬t.val % 5 = 4) : (here m c t).2.1 = dcAll (firstPlain m c t h0) (fun _ => (0 : EReal)) := by
  have e : here m c t = _ := outsAt0_A m c t h0 h1
  rw [e]
  dsimp only
  rw [CaseA.out13]

theorem first3 (h0 : t.val % 5 = 0) (h1 : ¬t.val % 5 = 4) : (here m c t).2.2.2.2.2.2 = dkrAll (firstPlain m c t h0) (fun _ => (0 : EReal)) := by
  have e : here m c t = _ := outsAt0_A m c t h0 h1
  rw [e]
  dsimp only
  rw [CaseA.left3]

/-- What a later point of a batch works on, and what it leaves. -/
abbrev laterPlain : Blk := plainAt m c t (prev m c t).2.2.2.1 (prev m c t).2.2.2.2.1 (prev m c t).2.2.2.2.2.1

theorem mid12 (h0 : ¬t.val % 5 = 0) (h1 : ¬t.val % 5 = 4) : (here m c t).1 = View.canon (dqPieces (laterPlain m c t)) := by
  have e : here m c t = _ := outsAt0_B m c t h0 h1
  rw [e]
  dsimp only
  rw [CaseB.out12]

theorem mid13 (h0 : ¬t.val % 5 = 0) (h1 : ¬t.val % 5 = 4) : (here m c t).2.1 = dcAll (laterPlain m c t) (prev m c t).2.1 := by
  have e : here m c t = _ := outsAt0_B m c t h0 h1
  rw [e]
  dsimp only
  rw [CaseB.out13]

theorem mid3 (h0 : ¬t.val % 5 = 0) (h1 : ¬t.val % 5 = 4) : (here m c t).2.2.2.2.2.2 = dkrAll (laterPlain m c t) (prev m c t).2.2.2.2.2.2 := by
  have e : here m c t = _ := outsAt0_B m c t h0 h1
  rw [e]
  dsimp only
  rw [CaseB.left3]

theorem last12 (h0 : ¬t.val % 5 = 0) (h1 : t.val % 5 = 4) : (here m c t).1 = View.canon (dqPieces (laterPlain m c t)) := by
  have e : here m c t = _ := outsAt0_C m c t h0 h1
  rw [e]
  dsimp only
  rw [CaseC.out12]

theorem last13 (h0 : ¬t.val % 5 = 0) (h1 : t.val % 5 = 4) : (here m c t).2.1 = dcAll (laterPlain m c t) (prev m c t).2.1 := by
  have e : here m c t = _ := outsAt0_C m c t h0 h1
  rw [e]
  dsimp only
  rw [CaseC.out13]

theorem last3 (h0 : ¬t.val % 5 = 0) (h1 : t.val % 5 = 4) : (here m c t).2.2.2.2.2.2 = dkrAll (laterPlain m c t) (prev m c t).2.2.2.2.2.2 := by
  have e : here m c t = _ := outsAt0_C m c t h0 h1
  rw [e]
  dsimp only
  rw [CaseC.left3]

theorem last14 (h0 : ¬t.val % 5 = 0) (h1 : t.val % 5 = 4) : (here m c t).2.2.1 = k0_pay3 (F := Ideal) (dkrAll (laterPlain m c t) (prev m c t).2.2.2.2.2.2) := by
  have e : here m c t = _ := outsAt0_C m c t h0 h1
  rw [e]
  dsimp only
  rw [CaseC.out14]

/-- A grid point's results, from blocks that hold its entries and from the sums so far. -/
theorem step : ∃ (B : Blk) (acc : FVec Ideal S1x128x512 .f32) (acc3 : FVec Ideal S128x64 .f32),
    Reads B (at_ m c (bt t) (tl t)) ∧ (here m c t).1 = View.canon (dqPieces B) ∧ (here m c t).2.1 = dcAll B acc ∧
    (here m c t).2.2.2.2.2.2 = dkrAll B acc3 ∧
    (t.val % 5 = 0 → acc = (fun _ => (0 : EReal)) ∧ acc3 = fun _ => (0 : EReal)) ∧
    (¬t.val % 5 = 0 → acc = (prev m c t).2.1 ∧ acc3 = (prev m c t).2.2.2.2.2.2) ∧
    (t.val % 5 = 4 → (here m c t).2.2.1 = k0_pay3 (F := Ideal) (dkrAll B acc3)) := by
  by_cases h0 : t.val % 5 = 0
  · have h1 : ¬t.val % 5 = 4 := by omega
    exact ⟨firstPlain m c t h0, fun _ => (0 : EReal), fun _ => (0 : EReal), reads_at m c t _ _ _ (firstKeys m c t h0), first12 m c t h0 h1,
      first13 m c t h0 h1, first3 m c t h0 h1, fun _ => ⟨rfl, rfl⟩, fun h => absurd h0 h, fun h => absurd h h1⟩
  · have eb : bt ⟨t.val - 1, Nat.lt_of_le_of_lt (Nat.sub_le _ _) t.isLt⟩ = bt t := Fin.ext (by show (t.val - 1) / 5 = t.val / 5; omega)
    have K := keys m c (t.val - 1) (Nat.lt_of_le_of_lt (Nat.sub_le _ _) t.isLt)
    rw [eb] at K
    have R := reads_at m c t _ _ _ K
    by_cases h1 : t.val % 5 = 4
    · exact ⟨laterPlain m c t, (prev m c t).2.1, (prev m c t).2.2.2.2.2.2, R, last12 m c t h0 h1, last13 m c t h0 h1, last3 m c t h0 h1,
        fun h => absurd h h0, fun _ => ⟨rfl, rfl⟩, fun _ => last14 m c t h0 h1⟩
    · exact ⟨laterPlain m c t, (prev m c t).2.1, (prev m c t).2.2.2.2.2.2, R, mid12 m c t h0 h1, mid13 m c t h0 h1, mid3 m c t h0 h1,
        fun h => absurd h h0, fun _ => ⟨rfl, rfl⟩, fun h => absurd h h1⟩

end Cert.KernelIdeal.Value
-- ==== Proof.Value.lean ====
/- What the kernel's three result arrays end holding, entry by entry. -/
module

public import proofs.«01_k».proof.Proof.Points

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen Cert.KernelIdeal.Body

variable (m : (ℓ : Loc nD τ sig) → Buf (Elt Ideal) ℓ) (c : Dev nD)

/-- The tiles of a batch, counted from any number. -/
def tile (k : ℕ) : Fin 5 := ⟨k % 5, Nat.mod_lt _ (by decide)⟩

/-- A grid point's block of the query gradient. -/
theorem dq_here (t : Fin cfg0.N) (y : S1x8x576x128.Idx) :
    (here m c t).1 y = (at_ m c (bt t) (tl t)).dq (y 1) (y 2) (y 3) := by
  obtain ⟨B, acc, acc3, R, e, -⟩ := step m c t
  rw [e]
  exact dqPieces_apply R y

/-- The running sums after a grid point: over the batch's tiles so far. -/
theorem sums : ∀ (n : ℕ) (hn : n < cfg0.N),
    (∀ j r, (outsAt0 m c n hn).2.1 (ix3 0 j r) = ∑ k ∈ Finset.range (n % 5 + 1), ∑ hd, (at_ m c (bt ⟨n, hn⟩) (tile k)).dc hd j r) ∧
      (∀ j d, (outsAt0 m c n hn).2.2.2.2.2.2 (ix2 j d) =
        ∑ k ∈ Finset.range (n % 5 + 1), ∑ hd, (at_ m c (bt ⟨n, hn⟩) (tile k)).dkr hd j d) := by
  intro n
  induction n with
  | zero =>
    intro hn
    obtain ⟨B, acc, acc3, R, -, e1, e2, f, -⟩ := step m c ⟨0, hn⟩
    obtain ⟨rfl, rfl⟩ := f rfl
    refine ⟨fun j r => (congrFun e1 _).trans ((dcAll_apply R _ j r).trans ?_), fun j d => (congrFun e2 _).trans ((dkrAll_apply R _ j d).trans ?_)⟩
    · rw [Finset.sum_range_one, zero_add]; rfl
    · rw [Finset.sum_range_one, zero_add]; rfl
  | succ n ih =>
    intro hn
    have et : tl ⟨n + 1, hn⟩ = tile ((n + 1) % 5) := Fin.ext (by show (n + 1) % 5 = (n + 1) % 5 % 5; omega)
    obtain ⟨B, acc, acc3, R, -, e1, e2, f, g, -⟩ := step m c ⟨n + 1, hn⟩
    rw [et] at R
    by_cases h0 : (n + 1) % 5 = 0
    · obtain ⟨rfl, rfl⟩ := f h0
      refine ⟨fun j r => (congrFun e1 _).trans ((dcAll_apply R _ j r).trans ?_), fun j d => (congrFun e2 _).trans ((dkrAll_apply R _ j d).trans ?_)⟩
      · rw [h0, Finset.sum_range_one, zero_add]
      · rw [h0, Finset.sum_range_one, zero_add]
    · have eb : bt ⟨n, Nat.lt_of_succ_lt hn⟩ = bt ⟨n + 1, hn⟩ := Fin.ext (by show n / 5 = (n + 1) / 5; omega)
      have em : (n + 1) % 5 = n % 5 + 1 := by omega
      obtain ⟨i1, i2⟩ := ih (Nat.lt_of_succ_lt hn)
      rw [eb] at i1 i2
      obtain ⟨rfl, rfl⟩ := g h0
      refine ⟨fun j r => (congrFun e1 _).trans ((dcAll_apply R _ j r).trans ?_), fun j d => (congrFun e2 _).trans ((dkrAll_apply R _ j d).trans ?_)⟩
      · rw [Finset.sum_range_succ]
        conv_rhs => rw [em]
        exact congrArg₂ _ (i1 j r) (by rw [em])
      · rw [Finset.sum_range_succ]
        conv_rhs => rw [em]
        exact congrArg₂ _ (i2 j d) (by rw [em])

theorem sum_tiles (f : Fin 5 → EReal) : ∑ k ∈ Finset.range (4 + 1), f (tile k) = ∑ t : Fin 5, f t := by
  rw [Finset.sum_range]
  exact Finset.sum_congr rfl fun t _ => congrArg f (Fin.ext (Nat.mod_eq_of_lt t.isLt))

theorem dc_here (t : Fin cfg0.N) (h : t.val % 5 = 4) (j : Fin 128) (r : Fin 512) :
    (here m c t).2.1 (ix3 0 j r) = ∑ k : Fin 5, ∑ hd, (at_ m c (bt t) k).dc hd j r := by
  have e := (sums m c t.val t.isLt).1 j r
  rw [h] at e
  exact e.trans (sum_tiles fun k => ∑ hd, (at_ m c (bt t) k).dc hd j r)

theorem dkr_here (t : Fin cfg0.N) (h : t.val % 5 = 4) (d : Fin 64) (j : Fin 128) :
    (here m c t).2.2.1 (ix3 0 d j) = ∑ k : Fin 5, ∑ hd, (at_ m c (bt t) k).dkr hd j d := by
  have e := (sums m c t.val t.isLt).2 j d
  obtain ⟨B, acc, acc3, -, -, -, e2, -, -, g⟩ := step m c t
  rw [g h]
  rw [e2, h] at e
  refine Eq.trans ?_ (e.trans (sum_tiles fun k => ∑ hd, (at_ m c (bt t) k).dkr hd j d))
  pointwise [k0_pay3]

/-- The query gradient, head by head. -/
def dqArr : FVec Ideal S12x40x576x128 .bf16 := fun y =>
  (at_ m c (y 0) ⟨(y 1).val / 8, by have := (y 1).isLt; change _ < 40 at this; omega⟩).dq ⟨(y 1).val % 8, by omega⟩ (y 2) (y 3)

def dcArr : FVec Ideal S12x128x512 .f32 := fun y => ∑ k : Fin 5, ∑ hd, (at_ m c (y 0) k).dc hd (y 1) (y 2)

def dkrArr : FVec Ideal S12x64x128 .f32 := fun y => ∑ k : Fin 5, ∑ hd, (at_ m c (y 0) k).dkr hd (y 2) (y 1)

theorem final12 : (dats m 0 c).arrAt 12 cfg0.N = dqArr m c := by
  refine (dats m 0 c).arrAt_eq_of_covers 12 _ (by decide +kernel) fun t hf y => ?_
  blk_simp
  rw [after0_12]
  refine (dq_here m c t _).trans ?_
  obtain ⟨a, hd, d, i, rfl⟩ : ∃ (a : Fin 1) (hd : Fin 8) (d : Fin 576) (i : Fin 128), y = ix4 a hd d i := ⟨_, _, _, _, eq_ix4 y⟩
  obtain rfl := Subsingleton.elim a 0
  refine Eq.trans ?_ (congrArg (dqArr m c) (show (ix4 (bt t) ⟨8 * (tl t).val + hd.val, by omega⟩ d i : S12x40x576x128.Idx) = _ by
    unfold bt tl; blk_ext [idx t]))
  have e1 : (⟨(8 * (tl t).val + hd.val) / 8, by omega⟩ : Fin 5) = tl t := Fin.ext (by show (8 * (tl t).val + hd.val) / 8 = _; omega)
  have e2 : (⟨(8 * (tl t).val + hd.val) % 8, by omega⟩ : Fin 8) = hd := Fin.ext (by show (8 * (tl t).val + hd.val) % 8 = _; omega)
  show _ = (at_ m c (bt t) ⟨(8 * (tl t).val + hd.val) / 8, _⟩).dq ⟨(8 * (tl t).val + hd.val) % 8, _⟩ d i
  rw [e1, e2]
  rfl

theorem final13 : (dats m 0 c).arrAt 13 cfg0.N = dcArr m c := by
  refine (dats m 0 c).arrAt_eq_of_covers 13 _ (by decide +kernel) fun t hf y => ?_
  blk_simp
  rw [after0_13]
  obtain ⟨a, j, r, rfl⟩ : ∃ (a : Fin 1) (j : Fin 128) (r : Fin 512), y = ix3 a j r := ⟨_, _, _, eq_ix3 y⟩
  obtain rfl := Subsingleton.elim a 0
  refine (dc_here m c t ((flush0_13 t).mp hf) j r).trans ?_
  refine Eq.trans ?_ (congrArg (dcArr m c) (show (ix3 (bt t) j r : S12x128x512.Idx) = _ by unfold bt; blk_ext [idx t]))
  rfl

theorem final14 : (dats m 0 c).arrAt 14 cfg0.N = dkrArr m c := by
  refine (dats m 0 c).arrAt_eq_of_covers 14 _ (by decide +kernel) fun t hf y => ?_
  blk_simp
  rw [after0_14]
  obtain ⟨a, d, j, rfl⟩ : ∃ (a : Fin 1) (d : Fin 64) (j : Fin 128), y = ix3 a d j := ⟨_, _, _, eq_ix3 y⟩
  obtain rfl := Subsingleton.elim a 0
  refine (dkr_here m c t ((flush0_14 t).mp hf) d j).trans ?_
  refine Eq.trans ?_ (congrArg (dkrArr m c) (show (ix3 (bt t) d j : S12x64x128.Idx) = _ by unfold bt; blk_ext [idx t]))
  rfl

end Cert.KernelIdeal.Value
-- ==== Proof.Reference.lean ====
/- What the reference's host operations compute, entry by entry, from the widened arrays and the other arguments. -/
module

public import proofs.«01_k».proof.ReferenceIdeal
public import proofs.«01_k».proof.Proof.Gen.ReferenceIdeal
public import proofs.«01_k».proof.Proof.Algebra
public import Idealize.ShloMosaic.Lib.Pointwise
public import Idealize.ShloMosaic.Lib.WordCmp

@[expose] public section

set_option maxRecDepth 16384

noncomputable section

open Idealize.ShloMosaic Idealize.ShloMosaic.TcCoe
open Cert.Algebra

namespace Cert.ReferenceIdeal.Value

open Cert.ReferenceIdeal Cert.ReferenceIdeal.Gen Cert.ReferenceIdeal.Facts

variable (q : FVec Ideal S12x128x40x576 .bf16) (c : FVec Ideal S12x128x512 .bf16) (w : FVec Ideal S12x128x40x512 .bf16)
  (qs : FVec Ideal S12x128x40 .f32) (cs : FVec Ideal S12x128 .f32) (kr : FVec Ideal S12x128x64 .bf16)
  (o : FVec Ideal S12x128x40x512 .bf16) (lse : FVec Ideal S12x128x40 .f32) (ws : FVec Ideal S12x128 .f32)

/-- One over the root of 192. -/
def scale : FVec Ideal S_ .f32 := Host.divf (constant S_ .f32 0x3F800000#32) (Host.sqrt (constant S_ .f32 0x43400000#32))

/-- The keys: the scaled latent and the rotary part. -/
def keys : FVec Ideal S12x128x576 .bf16 :=
  (fun a b => concatenate S12x128x576 2 [⟨S12x128x512, a⟩, ⟨S12x128x64, b⟩] concatenates_S12x128x512_S12x128x64_S12x128x576_d2)
    (mulf c (broadcastInDim S12x128x512 ![0, 1, 2] bcast_S12x128x1_S12x128x512_0_1_2
      (broadcastInDim S12x128x1 ![0, 1] bcast_S12x128_S12x128x1_0_1 (truncf .bf16 cs bitsLt_bf16_f32)))) kr

/-- The scaled queries and the scaled incoming gradient. -/
def queries : FVec Ideal S12x128x40x576 .bf16 :=
  mulf q (broadcastInDim S12x128x40x576 ![0, 1, 2, 3] bcast_S12x128x40x1_S12x128x40x576_0_1_2_3
    (broadcastInDim S12x128x40x1 ![0, 1, 2] bcast_S12x128x40_S12x128x40x1_0_1_2 (truncf .bf16 qs bitsLt_bf16_f32)))

def grads : FVec Ideal S12x128x40x512 .bf16 :=
  mulf w (broadcastInDim S12x128x40x512 ![0, 1, 2, 3] bcast_S12x128x1x1_S12x128x40x512_0_1_2_3
    (broadcastInDim S12x128x1x1 ![0, 1] bcast_S12x128_S12x128x1x1_0_1 (truncf .bf16 ws bitsLt_bf16_f32)))

/-- The row sums of the incoming gradient times the output. -/
def delta : FVec Ideal S12x128x40 .f32 :=
  Host.reduceAdd (mulf (mulf (extf .f32 w bitsLt_bf16_f32) (broadcastInDim S12x128x40x512 ![0, 1, 2, 3] bcast_S12x128x1x1_S12x128x40x512_0_1_2_3
    (broadcastInDim S12x128x1x1 ![0, 1] bcast_S12x128_S12x128x1x1_0_1 ws))) (extf .f32 o bitsLt_bf16_f32))
    (constant S_ .f32 0x00000000#32) reducesTo_S12x128x40x512_S12x128x40_d3 h_S_

def perRow (x : FVec Ideal S12x128x40 .f32) : FVec Ideal S12x128x40x128 .f32 :=
  broadcastInDim S12x128x40x128 ![0, 1, 2, 3] bcast_S12x128x40x1_S12x128x40x128_0_1_2_3
    (broadcastInDim S12x128x40x1 ![0, 1, 2] bcast_S12x128x40_S12x128x40x1_0_1_2 x)

def perKey (x : FVec Ideal S12x128 .f32) : FVec Ideal S12x128x40x128 .f32 :=
  broadcastInDim S12x128x40x128 ![0, 1, 2, 3] bcast_S12x1x1x128_S12x128x40x128_0_1_2_3
    (broadcastInDim S12x1x1x128 ![0, 3] bcast_S12x128_S12x1x1x128_0_3 x)

def perToken (x : FVec Ideal S12x128 .f32) : FVec Ideal S12x128x40x128 .f32 :=
  broadcastInDim S12x128x40x128 ![0, 1, 2, 3] bcast_S12x128x1x1_S12x128x40x128_0_1_2_3
    (broadcastInDim S12x128x1x1 ![0, 1] bcast_S12x128_S12x128x1x1_0_1 x)

/-- The scores. -/
def scores : FVec Ideal S12x128x40x128 .f32 :=
  mulf (broadcastInDim S12x128x40x128 ![] bcast_S_S12x128x40x128 scale)
    (addf (mulf (mulf (Host.dotGeneral (F := Ideal) (φ₁ := .bf16) (φ₂ := .bf16) dot_S12x128x40x512_S12x128x512_S12x128x40x128_3_2_12_1_0_0 none
        (extractStridedSlice S12x128x40x512 ![0, 0, 0, 0] q slices_S12x128x40x576_S12x128x40x512_0_0_0_0) c) (perRow qs)) (perKey cs))
      (mulf (Host.dotGeneral (F := Ideal) (φ₁ := .bf16) (φ₂ := .bf16) dot_S12x128x40x64_S12x128x64_S12x128x40x128_3_2_12_1_0_0 none
        (extractStridedSlice S12x128x40x64 ![0, 0, 0, 512] q slices_S12x128x40x576_S12x128x40x64_0_0_0_512) kr) (perRow qs)))

/-- Whether the key is not after the query. -/
def causal : IVec S1x128x1x128 1 :=
  broadcastInDim S1x128x1x128 ![1, 3] bcast_S128x128_S1x128x1x128_1_3
    (cmpi .sle (broadcastInDim S128x128 ![0, 1] bcast_S1x128_S128x128_0_1 (broadcastInDim S1x128 ![1] bcast_S128_S1x128_1 (iotaInDim S128 32 0)))
      (broadcastInDim S128x128 ![0, 1] bcast_S128x1_S128x128_0_1 (broadcastInDim S128x1 ![0] bcast_S128_S128x1_0 (iotaInDim S128 32 0))))

/-- The attention weights. -/
def probs : FVec Ideal S12x128x40x128 .f32 :=
  select (broadcastInDim S12x128x40x128 ![0, 1, 2, 3] bcast_S1x128x1x128_S12x128x40x128_0_1_2_3 causal)
    (Host.exp (subf (scores q c qs cs kr) (perRow lse)))
    (broadcastInDim S12x128x40x128 ![] bcast_S_S12x128x40x128 (id (constant S_ .f32 0x00000000#32)))

/-- The gradient of the scores. -/
def dscores : FVec Ideal S12x128x40x128 .bf16 :=
  truncf .bf16 (mulf (broadcastInDim S12x128x40x128 ![] bcast_S_S12x128x40x128 scale)
    (mulf (probs q c qs cs kr lse)
      (subf (mulf (mulf (Host.dotGeneral (F := Ideal) (φ₁ := .bf16) (φ₂ := .bf16) dot_S12x128x40x512_S12x128x512_S12x128x40x128_3_2_12_1_0_0 none w c)
        (perToken ws)) (perKey cs)) (perRow (delta w o ws))))) bitsLt_bf16_f32

/-- The three results. -/
def dq : FVec Ideal S12x128x40x576 .bf16 :=
  truncf .bf16 (Host.dotGeneral (F := Ideal) (φ₁ := .bf16) (φ₂ := .bf16) dot_S12x128x40x128_S12x128x576_S12x128x40x576_3_1_12_2_0_0 none
    (dscores q c w qs cs kr o lse ws) (keys c cs kr)) bitsLt_bf16_f32

def dkeys : FVec Ideal S12x128x576 .f32 :=
  Host.dotGeneral (F := Ideal) (φ₁ := .bf16) (φ₂ := .bf16) dot_S12x128x40x128_S12x128x40x576_S12x128x576_21_21_3_3_0_0 none
    (dscores q c w qs cs kr o lse ws) (queries q qs)

def dvalues : FVec Ideal S12x128x512 .f32 :=
  Host.dotGeneral (F := Ideal) (φ₁ := .bf16) (φ₂ := .bf16) dot_S12x128x40x128_S12x128x40x512_S12x128x512_21_21_3_3_0_0 none
    (truncf .bf16 (probs q c qs cs kr lse) bitsLt_bf16_f32) (grads w ws)

def dc : FVec Ideal S12x128x512 .f32 :=
  addf (extractStridedSlice S12x128x512 ![0, 0, 0] (dkeys q c w qs cs kr o lse ws) slices_S12x128x576_S12x128x512_0_0_0)
    (dvalues q c w qs cs kr lse ws)

def dkr : FVec Ideal S12x128x64 .f32 :=
  extractStridedSlice S12x128x64 ![0, 0, 512] (dkeys q c w qs cs kr o lse ws) slices_S12x128x576_S12x128x64_0_0_512

/-! ## Read at an entry -/

theorem scale_apply (y : S_.Idx) : scale y = S := by
  have e1 : Ideal.ofBits .f32 0x3F800000#32 = ((1 : ℝ) : EReal) := by
    simp [Ideal.ofBits, Ideal.ieee, -EReal.coe_mul]; norm_num
  have e192 : Ideal.ofBits .f32 0x43400000#32 = ((192 : ℝ) : EReal) := by
    simp [Ideal.ofBits, Ideal.ieee, -EReal.coe_mul]; norm_num
  simp only [scale, Host.divf, Host.sqrt, constant, Ideal.hostDivf_def, Ideal.hostUnary_sqrt_def, Ideal.ofBits_def, e1, e192, Ideal.sqrt_coe,
    show ¬(192 : ℝ) < 0 from by norm_num, ↓reduceIte, Ideal.div_coe (show Real.sqrt 192 ≠ 0 from (Real.sqrt_pos.mpr (by norm_num)).ne')]
  rw [one_div]
  exact one_mul S

theorem perRow_apply (x : FVec Ideal S12x128x40 .f32) (b : Fin 12) (i : Fin 128) (H : Fin 40) (j : Fin 128) :
    perRow x (ix4 b i H j) = x (ix3 b i H) := by
  pointwise [perRow]

theorem perKey_apply (x : FVec Ideal S12x128 .f32) (b : Fin 12) (i : Fin 128) (H : Fin 40) (j : Fin 128) :
    perKey x (ix4 b i H j) = x (ix2 b j) := by
  pointwise [perKey]

theorem perToken_apply (x : FVec Ideal S12x128 .f32) (b : Fin 12) (i : Fin 128) (H : Fin 40) (j : Fin 128) :
    perToken x (ix4 b i H j) = x (ix2 b i) := by
  pointwise [perToken]

theorem keys_apply (b : Fin 12) (j : Fin 128) (d : Fin 576) :
    keys c cs kr (ix3 b j d) = if h : d.val < 512 then c (ix3 b j ⟨d.val, h⟩) * cs (ix2 b j) else kr (ix3 b j ⟨d.val - 512, by omega⟩) := by
  pointwise [keys]

theorem queries_apply (b : Fin 12) (i : Fin 128) (H : Fin 40) (d : Fin 576) :
    queries q qs (ix4 b i H d) = q (ix4 b i H d) * qs (ix3 b i H) := by
  pointwise [queries]

theorem grads_apply (b : Fin 12) (i : Fin 128) (H : Fin 40) (r : Fin 512) :
    grads w ws (ix4 b i H r) = w (ix4 b i H r) * ws (ix2 b i) := by
  pointwise [grads]

theorem delta_apply (b : Fin 12) (i : Fin 128) (H : Fin 40) :
    delta w o ws (ix3 b i H) = ∑ r : Fin 512, (w (ix4 b i H r) * ws (ix2 b i)) * o (ix4 b i H r) := by
  pointwise [delta]

theorem scores_apply (b : Fin 12) (i : Fin 128) (H : Fin 40) (j : Fin 128) :
    scores q c qs cs kr (ix4 b i H j) = S * ((∑ r : Fin 512, q (ix4 b i H ⟨r.val, by omega⟩) * c (ix3 b j r)) * qs (ix3 b i H) * cs (ix2 b j)
      + (∑ d : Fin 64, q (ix4 b i H ⟨512 + d.val, by omega⟩) * kr (ix3 b j d)) * qs (ix3 b i H)) := by
  pointwise [scores, scale_apply, perRow_apply, perKey_apply]

theorem causal_apply (i j : Fin 128) : causal (ix4 0 i 0 j) = 1 ↔ j.val ≤ i.val := by
  pointwise [causal]
  exact WordCmp.cmpi_sle_ofNat_eq_one_iff (w := 32) (by omega) (by omega)

theorem probs_apply (b : Fin 12) (i : Fin 128) (H : Fin 40) (j : Fin 128) :
    probs q c qs cs kr lse (ix4 b i H j) =
      if j.val ≤ i.val then Ideal.exp (scores q c qs cs kr (ix4 b i H j) - lse (ix3 b i H)) else 0 := by
  pointwise [probs, perRow_apply]
  show Scalar.select _ _ (Ideal.ofBits .f32 0#32) = _
  rw [Ideal.ofBits_zero_f32]
  unfold Scalar.select
  by_cases h : j.val ≤ i.val
  · rw [if_pos h, if_pos ((causal_apply i j).mpr h)]
  · rw [if_neg h, if_neg (fun e => h ((causal_apply i j).mp e))]

theorem dscores_apply (b : Fin 12) (i : Fin 128) (H : Fin 40) (j : Fin 128) :
    dscores q c w qs cs kr o lse ws (ix4 b i H j) = S * (probs q c qs cs kr lse (ix4 b i H j) *
      ((∑ r : Fin 512, w (ix4 b i H r) * c (ix3 b j r)) * ws (ix2 b i) * cs (ix2 b j) - delta w o ws (ix3 b i H))) := by
  pointwise [dscores, scale_apply, perRow_apply, perKey_apply, perToken_apply]

theorem dq_apply (b : Fin 12) (i : Fin 128) (H : Fin 40) (d : Fin 576) :
    dq q c w qs cs kr o lse ws (ix4 b i H d) = ∑ j : Fin 128, dscores q c w qs cs kr o lse ws (ix4 b i H j) * keys c cs kr (ix3 b j d) := by
  pointwise [dq]

theorem dkeys_apply (b : Fin 12) (j : Fin 128) (d : Fin 576) :
    dkeys q c w qs cs kr o lse ws (ix3 b j d) =
      ∑ H : Fin 40, ∑ i : Fin 128, dscores q c w qs cs kr o lse ws (ix4 b i H j) * (q (ix4 b i H d) * qs (ix3 b i H)) := by
  pointwise [dkeys, queries_apply]

theorem dvalues_apply (b : Fin 12) (j : Fin 128) (r : Fin 512) :
    dvalues q c w qs cs kr lse ws (ix3 b j r) =
      ∑ H : Fin 40, ∑ i : Fin 128, probs q c qs cs kr lse (ix4 b i H j) * (w (ix4 b i H r) * ws (ix2 b i)) := by
  pointwise [dvalues, grads_apply]

theorem dc_apply (b : Fin 12) (j : Fin 128) (r : Fin 512) :
    dc q c w qs cs kr o lse ws (ix3 b j r) =
      dkeys q c w qs cs kr o lse ws (ix3 b j ⟨r.val, by omega⟩) + dvalues q c w qs cs kr lse ws (ix3 b j r) := by
  pointwise [dc]

theorem dkr_apply (b : Fin 12) (j : Fin 128) (d : Fin 64) :
    dkr q c w qs cs kr o lse ws (ix3 b j d) = dkeys q c w qs cs kr o lse ws (ix3 b j ⟨512 + d.val, by omega⟩) := by
  pointwise [dkr]

end Cert.ReferenceIdeal.Value
-- ==== Proof.Equal.lean ====
/- The kernel's entries are the reference's, where the two scales are nonnegative and finite. -/
module

public import proofs.«01_k».proof.Proof.Value
public import proofs.«01_k».proof.Proof.Reference

@[expose] public section

set_option maxRecDepth 16384

noncomputable section

open Idealize.ShloMosaic Idealize.ShloMosaic.TcCoe
open Cert.Algebra Cert.KernelIdeal.Body
open Cert.KernelIdeal.Value (point)
open Cert.ReferenceIdeal (S12x128x40x576 S12x128x40 S12x128x512 S12x128 S12x128x64 S12x128x40x512)

namespace Cert.Equal

open Cert.ReferenceIdeal.Value

variable (a0 : FVec Ideal S12x128x40x576 .fp8e4m3) (a1 : FVec Ideal S12x128x40 .f32) (a2 : FVec Ideal S12x128x512 .fp8e4m3)
  (a3 : FVec Ideal S12x128 .f32) (a4 : FVec Ideal S12x128x64 .bf16) (a5 : FVec Ideal S12x128x40x512 .bf16)
  (a6 : FVec Ideal S12x128x40 .f32) (a7 : FVec Ideal S12x128x40x512 .fp8e5m2) (a8 : FVec Ideal S12x128 .f32)
  (h1 : ∀ y, 0 ≤ a1 y ∧ a1 y ≠ ⊤) (h8 : ∀ y, 0 ≤ a8 y ∧ a8 y ≠ ⊤)

/-- The head at place `hd` of tile `t`. -/
abbrev head (t : Fin 5) (hd : Fin 8) : Fin 40 := ⟨8 * t.val + hd.val, by omega⟩

/-- A sum over the heads, tile by tile. -/
theorem sum_heads (f : Fin 40 → EReal) : ∑ t : Fin 5, ∑ hd : Fin 8, f (head t hd) = ∑ H : Fin 40, f H := by
  rw [Fin.sum_univ_tiles 5 8 rfl f]
  exact Finset.sum_congr rfl fun t _ => Finset.sum_congr rfl fun hd _ => congrArg f (Fin.ext (by show 8 * t.val + hd.val = t.val * 8 + hd.val; omega))

variable (b : Fin 12) (t : Fin 5)

abbrev pt : Pt := point a0 a1 a2 a3 a4 a5 a6 a7 a8 b t

theorem key_eq (j : Fin 128) (d : Fin 576) : (pt a0 a1 a2 a3 a4 a5 a6 a7 a8 b t).key j d = keys a2 a3 a4 (ix3 b j d) := (keys_apply a2 a3 a4 b j d).symm

include h1 in
theorem p_eq (hd : Fin 8) (j i : Fin 128) : (pt a0 a1 a2 a3 a4 a5 a6 a7 a8 b t).p hd j i = probs a0 a2 a1 a3 a4 a6 (ix4 b i (head t hd) j) := by
  rw [probs_apply, scores_apply]
  unfold Pt.p
  refine if_congr Iff.rfl ?_ rfl
  rw [← prob_eq (h1 _).1 (h1 _).2]
  simp only [mul_comm (a0 _)]
  rfl

include h8 in
theorem delta_eq (hd : Fin 8) (i : Fin 128) :
    delta a7 a5 a8 (ix3 b i (head t hd)) = (∑ r : Fin 512, (pt a0 a1 a2 a3 a4 a5 a6 a7 a8 b t).D i hd r * (pt a0 a1 a2 a3 a4 a5 a6 a7 a8 b t).O i hd r) * (pt a0 a1 a2 a3 a4 a5 a6 a7 a8 b t).dos i := by
  rw [delta_apply]
  refine Eq.trans ?_ (sum_mul' _ (h8 (ix2 b i)).1 (h8 (ix2 b i)).2 _).symm
  exact Finset.sum_congr rfl fun r _ => mul_right_comm _ _ _

include h1 h8 in
theorem ds_eq' (hd : Fin 8) (j i : Fin 128) :
    (pt a0 a1 a2 a3 a4 a5 a6 a7 a8 b t).ds hd j i = dscores a0 a2 a7 a1 a3 a4 a5 a6 a8 (ix4 b i (head t hd) j) := by
  rw [dscores_apply, delta_eq a0 a1 a2 a3 a4 a5 a6 a7 a8 h8 b t hd i, ← p_eq a0 a1 a2 a3 a4 a5 a6 a7 a8 h1 b t hd j i]
  unfold Pt.ds Pt.delta
  refine (ds_eq _ _ _ _ _).trans ?_
  simp only [mul_comm (a7 _)]
  rfl

include h1 h8 in
theorem dq_eq (hd : Fin 8) (d : Fin 576) (i : Fin 128) :
    (pt a0 a1 a2 a3 a4 a5 a6 a7 a8 b t).dq hd d i = dq a0 a2 a7 a1 a3 a4 a5 a6 a8 (ix4 b i (head t hd) d) := by
  rw [dq_apply]
  unfold Pt.dq
  refine Finset.sum_congr rfl fun j _ => ?_
  rw [key_eq, ds_eq' a0 a1 a2 a3 a4 a5 a6 a7 a8 h1 h8, mul_comm]

include h1 h8 in
theorem dkr_eq (j : Fin 128) (d : Fin 64) :
    ∑ t : Fin 5, ∑ hd : Fin 8, (pt a0 a1 a2 a3 a4 a5 a6 a7 a8 b t).dkr hd j d = dkr a0 a2 a7 a1 a3 a4 a5 a6 a8 (ix3 b j d) := by
  rw [dkr_apply, dkeys_apply, ← sum_heads]
  refine Finset.sum_congr rfl fun t _ => Finset.sum_congr rfl fun hd _ => Finset.sum_congr rfl fun i _ => ?_
  rw [ds_eq' a0 a1 a2 a3 a4 a5 a6 a7 a8 h1 h8, mul_assoc, mul_comm ((pt a0 a1 a2 a3 a4 a5 a6 a7 a8 b t).qs hd i)]
  rfl

include h1 h8 in
theorem dc_eq (j : Fin 128) (r : Fin 512) :
    ∑ t : Fin 5, ∑ hd : Fin 8, (pt a0 a1 a2 a3 a4 a5 a6 a7 a8 b t).dc hd j r = dc a0 a2 a7 a1 a3 a4 a5 a6 a8 (ix3 b j r) := by
  rw [dc_apply, dkeys_apply, dvalues_apply, ← sum_heads, ← sum_heads, ← Finset.sum_add_distrib]
  refine Finset.sum_congr rfl fun t _ => ?_
  rw [← Finset.sum_add_distrib]
  refine Finset.sum_congr rfl fun hd _ => ?_
  unfold Pt.dc
  refine congrArg₂ _ (Finset.sum_congr rfl fun i _ => ?_) (Finset.sum_congr rfl fun i _ => ?_)
  · rw [ds_eq' a0 a1 a2 a3 a4 a5 a6 a7 a8 h1 h8, mul_assoc, mul_comm ((pt a0 a1 a2 a3 a4 a5 a6 a7 a8 b t).qs hd i)]
    rfl
  · rw [p_eq a0 a1 a2 a3 a4 a5 a6 a7 a8 h1, mul_assoc, mul_comm ((pt a0 a1 a2 a3 a4 a5 a6 a7 a8 b t).dos i)]
    rfl

end Cert.Equal
-- ==== Proof.Widened.lean ====
/- The reference's widened arrays: the codes' own values. -/
module

public import proofs.«01_k».proof.Proof.Gen.ReferenceIdeal.Frame
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.ReferenceIdeal.Value

open Cert.ReferenceIdeal Cert.ReferenceIdeal.Gen

variable (m : (ℓ : Loc nD τ sig) → Buf (Elt Ideal) ℓ) (c : Dev nD)

theorem idx : ∀ t : Fin cfg0.N, win0_0.index t = ![0, 0, 0, 0] ∧ win0_1.index t = ![0, 0, 0] ∧ win0_2.index t = ![0, 0, 0, 0] ∧
    win0_3.index t = ![0, 0, 0, 0] ∧ win0_4.index t = ![0, 0, 0] ∧ win0_5.index t = ![0, 0, 0, 0] :=
  (by decide +kernel : ∀ t : Fin grid0.N, _)

/-- The widened arrays. -/
def wide0 : FVec Ideal S12x128x40x576 .bf16 := (m ((c : Thread nD τ).loc main_arg0) : FVec Ideal S12x128x40x576 .fp8e4m3)
def wide1 : FVec Ideal S12x128x512 .bf16 := (m ((c : Thread nD τ).loc main_arg2) : FVec Ideal S12x128x512 .fp8e4m3)
def wide2 : FVec Ideal S12x128x40x512 .bf16 := (m ((c : Thread nD τ).loc main_arg7) : FVec Ideal S12x128x40x512 .fp8e5m2)

theorem final3 : (dats m 0 c).arrAt 3 cfg0.N = wide0 m c := by
  refine (dats m 0 c).arrAt_eq_of_covers 3 _ (by decide +kernel) fun t hf y => ?_
  blk_simp
  rw [after0_3]
  frame_out
  show iblk m c 0 t y = _
  unfold wide0
  blk_ext [iblk, V, idx t]

theorem final4 : (dats m 0 c).arrAt 4 cfg0.N = wide1 m c := by
  refine (dats m 0 c).arrAt_eq_of_covers 4 _ (by decide +kernel) fun t hf y => ?_
  blk_simp
  rw [after0_4]
  frame_out
  show iblk m c 1 t y = _
  unfold wide1
  blk_ext [iblk, V, idx t]

theorem final5 : (dats m 0 c).arrAt 5 cfg0.N = wide2 m c := by
  refine (dats m 0 c).arrAt_eq_of_covers 5 _ (by decide +kernel) fun t hf y => ?_
  blk_simp
  rw [after0_5]
  frame_out
  show iblk m c 2 t y = _
  unfold wide2
  blk_ext [iblk, V, idx t]

end Cert.ReferenceIdeal.Value
-- ==== Proof.Assumption.lean ====
/- The assumption of the value claim, read at an entry: both scales are nonnegative and finite. -/
module

public import proofs.«01_k».proof.Pre_scales
public import Idealize.ShloMosaic.Lib.Pointwise

@[expose] public section

set_option maxRecDepth 16384

noncomputable section

open Idealize.ShloMosaic Idealize.ShloMosaic.TcCoe

namespace Cert.Pre_scales

instance facts : Facts where
  bcast_S_S12x128x40 := by decide
  bcast_S_S12x128 := by decide

theorem both {p q : Prop} [Decidable p] [Decidable q]
    (h : IntOp.andi (BitVec.ofBool (decide p)) (BitVec.ofBool (decide q)) = 1#1) : p ∧ q := by
  by_cases hp : p <;> by_cases hq : q <;> simp_all [IntOp.andi]

variable (a0 : FVec Ideal S12x128x40x576 .fp8e4m3) (a1 : FVec Ideal S12x128x40 .f32) (a2 : FVec Ideal S12x128x512 .fp8e4m3)
  (a3 : FVec Ideal S12x128 .f32) (a4 : FVec Ideal S12x128x64 .bf16) (a5 : FVec Ideal S12x128x40x512 .bf16)
  (a6 : FVec Ideal S12x128x40 .f32) (a7 : FVec Ideal S12x128x40x512 .fp8e5m2) (a8 : FVec Ideal S12x128 .f32)

theorem query_scale (h : (fn (F := Ideal) a0 a1 a2 a3 a4 a5 a6 a7 a8).1 = fun _ => 1#1) (y : S12x128x40.Idx) : 0 ≤ a1 y ∧ a1 y ≠ ⊤ := by
  have e := congrFun h y
  pointwise [fn] at e
  obtain ⟨e0, e1⟩ := both e
  exact ⟨e0, ne_top_of_lt e1⟩

theorem grad_scale (h : (fn (F := Ideal) a0 a1 a2 a3 a4 a5 a6 a7 a8).2 = fun _ => 1#1) (y : S12x128.Idx) : 0 ≤ a8 y ∧ a8 y ≠ ⊤ := by
  have e := congrFun h y
  pointwise [fn] at e
  obtain ⟨e0, e1⟩ := both e
  exact ⟨e0, ne_top_of_lt e1⟩

end Cert.Pre_scales
-- ==== Proof.Claims.lean ====
/- The value claim: the two programs' results are equal where the assumption holds. -/
module

public import proofs.«01_k».proof.Defs
public import proofs.«01_k».proof.Proof.Value
public import proofs.«01_k».proof.Proof.Equal
public import proofs.«01_k».proof.Proof.Widened
public import proofs.«01_k».proof.Proof.Assumption
public import Idealize.ShloMosaic.Lib.Claim
public import Idealize.ShloMosaic.Lib.StableHlo.RunRead

@[expose] public section

set_option maxRecDepth 16384

noncomputable section

open Idealize.ShloMosaic Idealize.ShloMosaic.TcCoe Idealize.SL.Sem

namespace Cert.KernelIdeal.Value

open Cert.KernelIdeal Cert.KernelIdeal.Gen

/-- An array of the region, after it. -/
theorem region (m : (ℓ : Loc nD τ sig) → Buf (Elt Ideal) ℓ) (c : Dev nD) (w : Fin cfg0.W) :
    Pipeline.withArrays spec0 c (V0 m c) (fun w => (dats m 0 c).arrAt w cfg0.N) (Proc.devRef .tc (Pipeline.arrRef spec0 w)) =
      (dats m 0 c).arrAt w cfg0.N :=
  Pipeline.withArrays_arr_shared spec0 c (V0 m c) _ ((dats m 0 c).arrAt_sharedIn sharedIn0 (V0 m c) (A_eq m c) cfg0.N) w

theorem host_dq (V : Valuation τ sig (Elt Ideal)) : StableHlo.after hostOps1 V (Proc.devRef .tc main_v5) =
    transpose S12x128x40x576 [0, 3, 1, 2] (V (Proc.devRef .tc main_v4_0) : FVec Ideal S12x40x576x128 .bf16)
      transposes_S12x40x576x128_S12x128x40x576_0_3_1_2 := by
  after_reads_simp

theorem host_dkr (V : Valuation τ sig (Elt Ideal)) : StableHlo.after hostOps1 V (Proc.devRef .tc main_v6) =
    transpose S12x128x64 [0, 2, 1] (V (Proc.devRef .tc main_v4_2) : FVec Ideal S12x64x128 .f32)
      transposes_S12x64x128_S12x128x64_0_2_1 := by
  after_reads_simp

/-- What a run of the kernel leaves in its three results. -/
theorem results (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v5)
          = transpose S12x128x40x576 [0, 3, 1, 2] (dqArr m c) transposes_S12x40x576x128_S12x128x40x576_0_3_1_2
        ∧ r.2.mem ((c.tc : Thread nD τ).loc main_v4_1) = dcArr m c
        ∧ r.2.mem ((c.tc : Thread nD τ).loc main_v6)
          = transpose S12x128x64 [0, 2, 1] (dkrArr m c) transposes_S12x64x128_S12x128x64_0_2_1) := by
  run_from run_main m g
  all_goals first
    | exact final13 m c
    | skip
  · exact (host_dq _).trans (congrArg (transpose S12x128x40x576 [0, 3, 1, 2] · _) ((region m c 12).trans (final12 m c)))
  · exact (host_dkr _).trans (congrArg (transpose S12x128x64 [0, 2, 1] · _) ((region m c 14).trans (final14 m c)))

end Cert.KernelIdeal.Value

namespace Cert.ReferenceIdeal.Value

open Cert.ReferenceIdeal Cert.ReferenceIdeal.Gen

/-- The reference's host operations, from any contents. -/
abbrev host (V : Valuation τ sig (Elt Ideal)) : Valuation τ sig (Elt Ideal) :=
  StableHlo.after (hostOps1 ++ (hostOps1_1 ++ hostOps1_2)) V

variable (V : Valuation τ sig (Elt Ideal))

theorem host_dq : host V (Proc.devRef .tc main_v67) =
    dq (V (Proc.devRef .tc main_v0_0)) (V (Proc.devRef .tc main_v0_1)) (V (Proc.devRef .tc main_v0_2)) (V (Proc.devRef .tc main_arg1))
      (V (Proc.devRef .tc main_arg3)) (V (Proc.devRef .tc main_arg4)) (V (Proc.devRef .tc main_arg5)) (V (Proc.devRef .tc main_arg6))
      (V (Proc.devRef .tc main_arg8)) := by
  after_reads_simp
  rfl

theorem host_dc : host V (Proc.devRef .tc main_v72) =
    dc (V (Proc.devRef .tc main_v0_0)) (V (Proc.devRef .tc main_v0_1)) (V (Proc.devRef .tc main_v0_2)) (V (Proc.devRef .tc main_arg1))
      (V (Proc.devRef .tc main_arg3)) (V (Proc.devRef .tc main_arg4)) (V (Proc.devRef .tc main_arg5)) (V (Proc.devRef .tc main_arg6))
      (V (Proc.devRef .tc main_arg8)) := by
  after_reads_simp
  rfl

theorem host_dkr : host V (Proc.devRef .tc main_v73) =
    dkr (V (Proc.devRef .tc main_v0_0)) (V (Proc.devRef .tc main_v0_1)) (V (Proc.devRef .tc main_v0_2)) (V (Proc.devRef .tc main_arg1))
      (V (Proc.devRef .tc main_arg3)) (V (Proc.devRef .tc main_arg4)) (V (Proc.devRef .tc main_arg5)) (V (Proc.devRef .tc main_arg6))
      (V (Proc.devRef .tc main_arg8)) := by
  after_reads_simp
  rfl

/-- An array of the region, after it. -/
theorem region (m : (ℓ : Loc nD τ sig) → Buf (Elt Ideal) ℓ) (c : Dev nD) (w : Fin cfg0.W) :
    Pipeline.withArrays spec0 c (V0 m c) (fun w => (dats m 0 c).arrAt w cfg0.N) (Proc.devRef .tc (Pipeline.arrRef spec0 w)) =
      (dats m 0 c).arrAt w cfg0.N :=
  Pipeline.withArrays_arr spec0 (by decide) c (V0 m c) _ w

/-- A buffer that is no array of the region, after it. -/
theorem kept (m : (ℓ : Loc nD τ sig) → Buf (Elt Ideal) ℓ) (c : Dev nD) (b : Ref sig .tc) (h : ∀ w, Pipeline.arrRef spec0 w ≠ b) :
    Pipeline.withArrays spec0 c (V0 m c) (fun w => (dats m 0 c).arrAt w cfg0.N) (Proc.devRef .tc b) = m ((c : Thread nD τ).loc b) :=
  Pipeline.withArrays_of_ne spec0 c (V0 m c) _ b h

/-- What a run of the reference leaves in its three results. -/
theorem results (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v67)
          = dq (wide0 m c) (wide1 m c) (wide2 m c) (m ((c.tc : Thread nD τ).loc main_arg1)) (m ((c.tc : Thread nD τ).loc main_arg3))
            (m ((c.tc : Thread nD τ).loc main_arg4)) (m ((c.tc : Thread nD τ).loc main_arg5)) (m ((c.tc : Thread nD τ).loc main_arg6))
            (m ((c.tc : Thread nD τ).loc main_arg8))
        ∧ r.2.mem ((c.tc : Thread nD τ).loc main_v72)
          = dc (wide0 m c) (wide1 m c) (wide2 m c) (m ((c.tc : Thread nD τ).loc main_arg1)) (m ((c.tc : Thread nD τ).loc main_arg3))
            (m ((c.tc : Thread nD τ).loc main_arg4)) (m ((c.tc : Thread nD τ).loc main_arg5)) (m ((c.tc : Thread nD τ).loc main_arg6))
            (m ((c.tc : Thread nD τ).loc main_arg8))
        ∧ r.2.mem ((c.tc : Thread nD τ).loc main_v73)
          = dkr (wide0 m c) (wide1 m c) (wide2 m c) (m ((c.tc : Thread nD τ).loc main_arg1)) (m ((c.tc : Thread nD τ).loc main_arg3))
            (m ((c.tc : Thread nD τ).loc main_arg4)) (m ((c.tc : Thread nD τ).loc main_arg5)) (m ((c.tc : Thread nD τ).loc main_arg6))
            (m ((c.tc : Thread nD τ).loc main_arg8))) := by
  run_from run_main m g
  all_goals
    have e0 := (region m c 3).trans (final3 m c)
    have e1 := (region m c 4).trans (final4 m c)
    have e2 := (region m c 5).trans (final5 m c)
    have k1 := kept m c main_arg1 (by decide)
    have k3 := kept m c main_arg3 (by decide)
    have k4 := kept m c main_arg4 (by decide)
    have k5 := kept m c main_arg5 (by decide)
    have k6 := kept m c main_arg6 (by decide)
    have k8 := kept m c main_arg8 (by decide)
  · refine (host_dq _).trans ?_
    congr 1
  · refine (host_dc _).trans ?_
    congr 1
  · refine (host_dkr _).trans ?_
    congr 1

end Cert.ReferenceIdeal.Value

namespace Cert.Proof

section

open Cert.KernelIdeal Cert.KernelIdeal.Gen Cert.KernelIdeal.Value

variable (m : (ℓ : Loc nD τ sig) → Buf (Elt Ideal) ℓ) (hpre : Cert.Pre_KernelIdeal_scales m) (c : Dev nD)

/-- The arguments. -/
abbrev A0 : FVec Ideal S12x128x40x576 .fp8e4m3 := m ((c.tc : Thread nD τ).loc main_arg0)
abbrev A1 : FVec Ideal S12x128x40 .f32 := m ((c.tc : Thread nD τ).loc main_arg1)
abbrev A2 : FVec Ideal S12x128x512 .fp8e4m3 := m ((c.tc : Thread nD τ).loc main_arg2)
abbrev A3 : FVec Ideal S12x128 .f32 := m ((c.tc : Thread nD τ).loc main_arg3)
abbrev A4 : FVec Ideal S12x128x64 .bf16 := m ((c.tc : Thread nD τ).loc main_arg4)
abbrev A5 : FVec Ideal S12x128x40x512 .bf16 := m ((c.tc : Thread nD τ).loc main_arg5)
abbrev A6 : FVec Ideal S12x128x40 .f32 := m ((c.tc : Thread nD τ).loc main_arg6)
abbrev A7 : FVec Ideal S12x128x40x512 .fp8e5m2 := m ((c.tc : Thread nD τ).loc main_arg7)
abbrev A8 : FVec Ideal S12x128 .f32 := m ((c.tc : Thread nD τ).loc main_arg8)

include hpre

theorem h1 : ∀ y, 0 ≤ A1 m c y ∧ A1 m c y ≠ ⊤ := Cert.Pre_scales.query_scale _ _ _ _ _ _ _ _ _ (hpre c).1
theorem h8 : ∀ y, 0 ≤ A8 m c y ∧ A8 m c y ≠ ⊤ := Cert.Pre_scales.grad_scale _ _ _ _ _ _ _ _ _ (hpre c).2

theorem dq_result : Cert.ReferenceIdeal.Value.dq (A0 m c) (A2 m c) (A7 m c) (A1 m c) (A3 m c) (A4 m c) (A5 m c) (A6 m c) (A8 m c) =
    transpose S12x128x40x576 [0, 3, 1, 2] (dqArr m c) transposes_S12x40x576x128_S12x128x40x576_0_3_1_2 := by
  funext y
  obtain ⟨b, i, H, d, rfl⟩ : ∃ b i H d, y = ix4 b i H d := ⟨_, _, _, _, eq_ix4 y⟩
  have e := Cert.Equal.dq_eq (A0 m c) (A1 m c) (A2 m c) (A3 m c) (A4 m c) (A5 m c) (A6 m c) (A7 m c) (A8 m c) (h1 m hpre c) (h8 m hpre c)
    b ⟨H.val / 8, by omega⟩ ⟨H.val % 8, by omega⟩ d i
  rw [show Cert.Equal.head ⟨H.val / 8, by omega⟩ ⟨H.val % 8, by omega⟩ = H from Fin.ext (Nat.div_add_mod H.val 8)] at e
  pointwise
  exact e.symm

theorem dc_result : Cert.ReferenceIdeal.Value.dc (A0 m c) (A2 m c) (A7 m c) (A1 m c) (A3 m c) (A4 m c) (A5 m c) (A6 m c) (A8 m c) =
    dcArr m c := by
  funext y
  obtain ⟨b, j, r, rfl⟩ : ∃ b j r, y = ix3 b j r := ⟨_, _, _, eq_ix3 y⟩
  exact (Cert.Equal.dc_eq (A0 m c) (A1 m c) (A2 m c) (A3 m c) (A4 m c) (A5 m c) (A6 m c) (A7 m c) (A8 m c) (h1 m hpre c) (h8 m hpre c) b j r).symm

theorem dkr_result : Cert.ReferenceIdeal.Value.dkr (A0 m c) (A2 m c) (A7 m c) (A1 m c) (A3 m c) (A4 m c) (A5 m c) (A6 m c) (A8 m c) =
    transpose S12x128x64 [0, 2, 1] (dkrArr m c) transposes_S12x64x128_S12x128x64_0_2_1 := by
  funext y
  obtain ⟨b, j, d, rfl⟩ : ∃ b j d, y = ix3 b j d := ⟨_, _, _, eq_ix3 y⟩
  have e := Cert.Equal.dkr_eq (A0 m c) (A1 m c) (A2 m c) (A3 m c) (A4 m c) (A5 m c) (A6 m c) (A7 m c) (A8 m c) (h1 m hpre c) (h8 m hpre c) b j d
  pointwise
  exact e.symm

end

/-- The two programs' results, from equal arguments within the assumption. -/
theorem algebraic : Cert.algebraic_KernelIdeal_ReferenceIdeal_pre_scales := by
  intro m g m' g' hpre hagree
  refine ⟨fun c => _, fun c => _, fun c => _,
    θ_run_mono (θ_run_and (Cert.KernelIdeal.Value.results m g) (Cert.KernelIdeal.Gen.unchanged m g))
      fun r hr c => ⟨(hr.1 c).1, (hr.1 c).2.1, (hr.1 c).2.2, hr.2 c⟩,
    θ_run_mono (θ_run_and (Cert.ReferenceIdeal.Value.results m' g') (Cert.ReferenceIdeal.Gen.unchanged m' g')) ?_⟩
  intro r hr c
  obtain ⟨e0, e1, e2, e3, e4, e5, e6, e7, e8⟩ := hagree c
  obtain ⟨r0, r1, r2⟩ := hr.1 c
  unfold Cert.ReferenceIdeal.Value.wide0 Cert.ReferenceIdeal.Value.wide1 Cert.ReferenceIdeal.Value.wide2 at r0 r1 r2
  rw [e0, e1, e2, e3, e4, e5, e6, e7, e8] at r0 r1 r2
  exact ⟨r0.trans (dq_result m hpre c), r1.trans (dc_result m hpre c), r2.trans (dkr_result m hpre c), hr.2 c⟩

end Cert.Proof
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Claims
public import Idealize.ShloMosaic.Adequacy
public import Idealize.ShloMosaic.Init

@[expose] public section

noncomputable section

namespace Cert.Proof

open Idealize.ShloMosaic Idealize.SL.Sem

/-- The three named constants denote the reals they were computed from. -/
theorem preserves : Cert.preserves_Kernel_KernelIdeal :=
  ⟨IdealRules.named_const.statement Cert.KernelIdeal.κ "scale" .f32 0x3D93CD3A#32 (((Real.sqrt 192)⁻¹ : ℝ) : EReal) rfl,
    IdealRules.named_const.statement Cert.KernelIdeal.κ "scale_log2e" .f32 0x3DD53B95#32
      (((Real.sqrt 192)⁻¹ * (Real.log 2)⁻¹ : ℝ) : EReal) rfl,
    IdealRules.named_const.statement Cert.KernelIdeal.κ "log2e" .f32 0x3FB8AA3B#32 (((Real.log 2)⁻¹ : ℝ) : EReal) rfl⟩

theorem claim : Cert.Claim :=
  ⟨Cert.Kernel.Gen.facts, Cert.KernelIdeal.Gen.facts, Cert.ReferenceIdeal.Gen.facts, Cert.Pre_scales.facts,
    fun m ρ _ => Cert.Kernel.Gen.frame m ρ, fun m ρ _ => Cert.KernelIdeal.Gen.frame m ρ, fun m ρ _ => Cert.KernelIdeal.Gen.frame m ρ,
    fun m ρ _ => Cert.ReferenceIdeal.Gen.frame m ρ, fun m ρ _ => Cert.ReferenceIdeal.Gen.frame m ρ, preserves, algebraic⟩

end Cert.Proof

end
